-- ==== Defs.lean ====
def Pre_Decoder (m : (ℓ : Loc Cert.Decoder.nD Cert.Decoder.τ Cert.Decoder.sig) → Buf (Elt Bits) ℓ) : Prop :=
  True

def Pre_DecoderIdeal (m : (ℓ : Loc Cert.DecoderIdeal.nD Cert.DecoderIdeal.τ Cert.DecoderIdeal.sig) → Buf (Elt Ideal) ℓ) : Prop :=
  True

def Pre_DecoderReferenceIdeal (m : (ℓ : Loc Cert.DecoderReferenceIdeal.nD Cert.DecoderReferenceIdeal.τ Cert.DecoderReferenceIdeal.sig) → Buf (Elt Ideal) ℓ) : Prop :=
  True

def Pre_Encoder (m : (ℓ : Loc Cert.Encoder.nD Cert.Encoder.τ Cert.Encoder.sig) → Buf (Elt Bits) ℓ) : Prop :=
  True

def Pre_EncoderIdeal (m : (ℓ : Loc Cert.EncoderIdeal.nD Cert.EncoderIdeal.τ Cert.EncoderIdeal.sig) → Buf (Elt Ideal) ℓ) : Prop :=
  True

def Pre_EncoderReferenceIdeal (m : (ℓ : Loc Cert.EncoderReferenceIdeal.nD Cert.EncoderReferenceIdeal.τ Cert.EncoderReferenceIdeal.sig) → Buf (Elt Ideal) ℓ) : Prop :=
  True

def quiescent_Decoder [hDecoder : Cert.Decoder.Facts] : Prop :=
  ∀ (m : (ℓ : Loc Cert.Decoder.nD Cert.Decoder.τ Cert.Decoder.sig) → Buf (Elt Bits) ℓ) (g : Dev Cert.Decoder.nD → PrngReg), Pre_Decoder m →
    θ_run (Cert.Decoder.defs (F := Bits)) (onTc (τ := Cert.Decoder.τ) (Cert.Decoder.main (F := Bits))) ⟨m, fun _ => 0, g⟩ (fun r => (∀ c : Dev Cert.Decoder.nD,
      r.2.mem ((c.tc : Thread Cert.Decoder.nD Cert.Decoder.τ).loc Cert.Decoder.main_arg0) = m ((c.tc : Thread Cert.Decoder.nD Cert.Decoder.τ).loc Cert.Decoder.main_arg0)
      ∧ r.2.mem ((c.tc : Thread Cert.Decoder.nD Cert.Decoder.τ).loc Cert.Decoder.main_arg1) = m ((c.tc : Thread Cert.Decoder.nD Cert.Decoder.τ).loc Cert.Decoder.main_arg1)
      ∧ r.2.mem ((c.tc : Thread Cert.Decoder.nD Cert.Decoder.τ).loc Cert.Decoder.main_arg2) = m ((c.tc : Thread Cert.Decoder.nD Cert.Decoder.τ).loc Cert.Decoder.main_arg2)
      ∧ r.2.mem ((c.tc : Thread Cert.Decoder.nD Cert.Decoder.τ).loc Cert.Decoder.main_arg3) = m ((c.tc : Thread Cert.Decoder.nD Cert.Decoder.τ).loc Cert.Decoder.main_arg3)
      ∧ r.2.mem ((c.tc : Thread Cert.Decoder.nD Cert.Decoder.τ).loc Cert.Decoder.main_arg4) = m ((c.tc : Thread Cert.Decoder.nD Cert.Decoder.τ).loc Cert.Decoder.main_arg4)
      ∧ r.2.mem ((c.tc : Thread Cert.Decoder.nD Cert.Decoder.τ).loc Cert.Decoder.main_arg5) = m ((c.tc : Thread Cert.Decoder.nD Cert.Decoder.τ).loc Cert.Decoder.main_arg5)
      ∧ r.2.mem ((c.tc : Thread Cert.Decoder.nD Cert.Decoder.τ).loc Cert.Decoder.main_arg6) = m ((c.tc : Thread Cert.Decoder.nD Cert.Decoder.τ).loc Cert.Decoder.main_arg6))
      ∧ r.2.sem = fun _ => 0)

def quiescent_DecoderIdeal [hDecoderIdeal : Cert.DecoderIdeal.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
      ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
      ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
      ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6))
      ∧ r.2.sem = fun _ => 0)

def quiescent_DecoderReferenceIdeal [hDecoderReferenceIdeal : Cert.DecoderReferenceIdeal.Facts] : Prop :=
  ∀ (m : (ℓ : Loc Cert.DecoderReferenceIdeal.nD Cert.DecoderReferenceIdeal.τ Cert.DecoderReferenceIdeal.sig) → Buf (Elt Ideal) ℓ) (g : Dev Cert.DecoderReferenceIdeal.nD → PrngReg), Pre_DecoderReferenceIdeal m →
    θ_run (Cert.DecoderReferenceIdeal.defs (F := Ideal)) (onTc (τ := Cert.DecoderReferenceIdeal.τ) (Cert.DecoderReferenceIdeal.main (F := Ideal))) ⟨m, fun _ => 0, g⟩ (fun r => (∀ c : Dev Cert.DecoderReferenceIdeal.nD,
      r.2.mem ((c.tc : Thread Cert.DecoderReferenceIdeal.nD Cert.DecoderReferenceIdeal.τ).loc Cert.DecoderReferenceIdeal.main_arg0) = m ((c.tc : Thread Cert.DecoderReferenceIdeal.nD Cert.DecoderReferenceIdeal.τ).loc Cert.DecoderReferenceIdeal.main_arg0)
      ∧ r.2.mem ((c.tc : Thread Cert.DecoderReferenceIdeal.nD Cert.DecoderReferenceIdeal.τ).loc Cert.DecoderReferenceIdeal.main_arg1) = m ((c.tc : Thread Cert.DecoderReferenceIdeal.nD Cert.DecoderReferenceIdeal.τ).loc Cert.DecoderReferenceIdeal.main_arg1)
      ∧ r.2.mem ((c.tc : Thread Cert.DecoderReferenceIdeal.nD Cert.DecoderReferenceIdeal.τ).loc Cert.DecoderReferenceIdeal.main_arg2) = m ((c.tc : Thread Cert.DecoderReferenceIdeal.nD Cert.DecoderReferenceIdeal.τ).loc Cert.DecoderReferenceIdeal.main_arg2)
      ∧ r.2.mem ((c.tc : Thread Cert.DecoderReferenceIdeal.nD Cert.DecoderReferenceIdeal.τ).loc Cert.DecoderReferenceIdeal.main_arg3) = m ((c.tc : Thread Cert.DecoderReferenceIdeal.nD Cert.DecoderReferenceIdeal.τ).loc Cert.DecoderReferenceIdeal.main_arg3)
      ∧ r.2.mem ((c.tc : Thread Cert.DecoderReferenceIdeal.nD Cert.DecoderReferenceIdeal.τ).loc Cert.DecoderReferenceIdeal.main_arg4) = m ((c.tc : Thread Cert.DecoderReferenceIdeal.nD Cert.DecoderReferenceIdeal.τ).loc Cert.DecoderReferenceIdeal.main_arg4)
      ∧ r.2.mem ((c.tc : Thread Cert.DecoderReferenceIdeal.nD Cert.DecoderReferenceIdeal.τ).loc Cert.DecoderReferenceIdeal.main_arg5) = m ((c.tc : Thread Cert.DecoderReferenceIdeal.nD Cert.DecoderReferenceIdeal.τ).loc Cert.DecoderReferenceIdeal.main_arg5)
      ∧ r.2.mem ((c.tc : Thread Cert.DecoderReferenceIdeal.nD Cert.DecoderReferenceIdeal.τ).loc Cert.DecoderReferenceIdeal.main_arg6) = m ((c.tc : Thread Cert.DecoderReferenceIdeal.nD Cert.DecoderReferenceIdeal.τ).loc Cert.DecoderReferenceIdeal.main_arg6))
      ∧ r.2.sem = fun _ => 0)

def quiescent_Encoder [hEncoder : Cert.Encoder.Facts] : Prop :=
  ∀ (m : (ℓ : Loc Cert.Encoder.nD Cert.Encoder.τ Cert.Encoder.sig) → Buf (Elt Bits) ℓ) (g : Dev Cert.Encoder.nD → PrngReg), Pre_Encoder m →
    θ_run (Cert.Encoder.defs (F := Bits)) (onTc (τ := Cert.Encoder.τ) (Cert.Encoder.main (F := Bits))) ⟨m, fun _ => 0, g⟩ (fun r => (∀ c : Dev Cert.Encoder.nD,
      r.2.mem ((c.tc : Thread Cert.Encoder.nD Cert.Encoder.τ).loc Cert.Encoder.main_arg0) = m ((c.tc : Thread Cert.Encoder.nD Cert.Encoder.τ).loc Cert.Encoder.main_arg0)
      ∧ r.2.mem ((c.tc : Thread Cert.Encoder.nD Cert.Encoder.τ).loc Cert.Encoder.main_arg1) = m ((c.tc : Thread Cert.Encoder.nD Cert.Encoder.τ).loc Cert.Encoder.main_arg1)
      ∧ r.2.mem ((c.tc : Thread Cert.Encoder.nD Cert.Encoder.τ).loc Cert.Encoder.main_arg2) = m ((c.tc : Thread Cert.Encoder.nD Cert.Encoder.τ).loc Cert.Encoder.main_arg2)
      ∧ r.2.mem ((c.tc : Thread Cert.Encoder.nD Cert.Encoder.τ).loc Cert.Encoder.main_arg3) = m ((c.tc : Thread Cert.Encoder.nD Cert.Encoder.τ).loc Cert.Encoder.main_arg3)
      ∧ r.2.mem ((c.tc : Thread Cert.Encoder.nD Cert.Encoder.τ).loc Cert.Encoder.main_arg4) = m ((c.tc : Thread Cert.Encoder.nD Cert.Encoder.τ).loc Cert.Encoder.main_arg4)
      ∧ r.2.mem ((c.tc : Thread Cert.Encoder.nD Cert.Encoder.τ).loc Cert.Encoder.main_arg5) = m ((c.tc : Thread Cert.Encoder.nD Cert.Encoder.τ).loc Cert.Encoder.main_arg5)
      ∧ r.2.mem ((c.tc : Thread Cert.Encoder.nD Cert.Encoder.τ).loc Cert.Encoder.main_arg6) = m ((c.tc : Thread Cert.Encoder.nD Cert.Encoder.τ).loc Cert.Encoder.main_arg6)
      ∧ r.2.mem ((c.tc : Thread Cert.Encoder.nD Cert.Encoder.τ).loc Cert.Encoder.main_arg7) = m ((c.tc : Thread Cert.Encoder.nD Cert.Encoder.τ).loc Cert.Encoder.main_arg7)
      ∧ r.2.mem ((c.tc : Thread Cert.Encoder.nD Cert.Encoder.τ).loc Cert.Encoder.main_arg8) = m ((c.tc : Thread Cert.Encoder.nD Cert.Encoder.τ).loc Cert.Encoder.main_arg8))
      ∧ r.2.sem = fun _ => 0)

def quiescent_EncoderIdeal [hEncoderIdeal : Cert.EncoderIdeal.Facts] : Prop :=
  ∀ (m : (ℓ : Loc Cert.EncoderIdeal.nD Cert.EncoderIdeal.τ Cert.EncoderIdeal.sig) → Buf (Elt Ideal) ℓ) (g : Dev Cert.EncoderIdeal.nD → PrngReg), Pre_EncoderIdeal m →
    θ_run (Cert.EncoderIdeal.defs (F := Ideal)) (onTc (τ := Cert.EncoderIdeal.τ) (Cert.EncoderIdeal.main (F := Ideal))) ⟨m, fun _ => 0, g⟩ (fun r => (∀ c : Dev Cert.EncoderIdeal.nD,
      r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
      ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
      ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
      ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
      ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
      ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
      ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
      ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7)
      ∧ r.2.mem ((c.tc : Thread Cert.EncoderIdeal.nD Cert.EncoderIdeal.τ).loc Cert.EncoderIdeal.main_arg8) = m ((c.tc : Thread Cert.EncoderIdeal.nD Cert.EncoderIdeal.τ).loc Cert.EncoderIdeal.main_arg8))
      ∧ r.2.sem = fun _ => 0)

def quiescent_EncoderReferenceIdeal [hEncoderReferenceIdeal : Cert.EncoderReferenceIdeal.Facts] : Prop :=
  ∀ (m : (ℓ : Loc Cert.EncoderReferenceIdeal.nD Cert.EncoderReferenceIdeal.τ Cert.EncoderReferenceIdeal.sig) → Buf (Elt Ideal) ℓ) (g : Dev Cert.EncoderReferenceIdeal.nD → PrngReg), Pre_EncoderReferenceIdeal m →
    θ_run (Cert.EncoderReferenceIdeal.defs (F := Ideal)) (onTc (τ := Cert.EncoderReferenceIdeal.τ) (Cert.EncoderReferenceIdeal.main (F := Ideal))) ⟨m, fun _ => 0, g⟩ (fun r => (∀ c : Dev Cert.EncoderReferenceIdeal.nD,
      r.2.mem ((c.tc : Thread Cert.EncoderReferenceIdeal.nD Cert.EncoderReferenceIdeal.τ).loc Cert.EncoderReferenceIdeal.main_arg0) = m ((c.tc : Thread Cert.EncoderReferenceIdeal.nD Cert.EncoderReferenceIdeal.τ).loc Cert.EncoderReferenceIdeal.main_arg0)
      ∧ r.2.mem ((c.tc : Thread Cert.EncoderReferenceIdeal.nD Cert.EncoderReferenceIdeal.τ).loc Cert.EncoderReferenceIdeal.main_arg1) = m ((c.tc : Thread Cert.EncoderReferenceIdeal.nD Cert.EncoderReferenceIdeal.τ).loc Cert.EncoderReferenceIdeal.main_arg1)
      ∧ r.2.mem ((c.tc : Thread Cert.EncoderReferenceIdeal.nD Cert.EncoderReferenceIdeal.τ).loc Cert.EncoderReferenceIdeal.main_arg2) = m ((c.tc : Thread Cert.EncoderReferenceIdeal.nD Cert.EncoderReferenceIdeal.τ).loc Cert.EncoderReferenceIdeal.main_arg2)
      ∧ r.2.mem ((c.tc : Thread Cert.EncoderReferenceIdeal.nD Cert.EncoderReferenceIdeal.τ).loc Cert.EncoderReferenceIdeal.main_arg3) = m ((c.tc : Thread Cert.EncoderReferenceIdeal.nD Cert.EncoderReferenceIdeal.τ).loc Cert.EncoderReferenceIdeal.main_arg3)
      ∧ r.2.mem ((c.tc : Thread Cert.EncoderReferenceIdeal.nD Cert.EncoderReferenceIdeal.τ).loc Cert.EncoderReferenceIdeal.main_arg4) = m ((c.tc : Thread Cert.EncoderReferenceIdeal.nD Cert.EncoderReferenceIdeal.τ).loc Cert.EncoderReferenceIdeal.main_arg4)
      ∧ r.2.mem ((c.tc : Thread Cert.EncoderReferenceIdeal.nD Cert.EncoderReferenceIdeal.τ).loc Cert.EncoderReferenceIdeal.main_arg5) = m ((c.tc : Thread Cert.EncoderReferenceIdeal.nD Cert.EncoderReferenceIdeal.τ).loc Cert.EncoderReferenceIdeal.main_arg5)
      ∧ r.2.mem ((c.tc : Thread Cert.EncoderReferenceIdeal.nD Cert.EncoderReferenceIdeal.τ).loc Cert.EncoderReferenceIdeal.main_arg6) = m ((c.tc : Thread Cert.EncoderReferenceIdeal.nD Cert.EncoderReferenceIdeal.τ).loc Cert.EncoderReferenceIdeal.main_arg6)
      ∧ r.2.mem ((c.tc : Thread Cert.EncoderReferenceIdeal.nD Cert.EncoderReferenceIdeal.τ).loc Cert.EncoderReferenceIdeal.main_arg7) = m ((c.tc : Thread Cert.EncoderReferenceIdeal.nD Cert.EncoderReferenceIdeal.τ).loc Cert.EncoderReferenceIdeal.main_arg7)
      ∧ r.2.mem ((c.tc : Thread Cert.EncoderReferenceIdeal.nD Cert.EncoderReferenceIdeal.τ).loc Cert.EncoderReferenceIdeal.main_arg8) = m ((c.tc : Thread Cert.EncoderReferenceIdeal.nD Cert.EncoderReferenceIdeal.τ).loc Cert.EncoderReferenceIdeal.main_arg8))
      ∧ r.2.sem = fun _ => 0)

def preserves_Decoder_DecoderIdeal : Prop :=
  True

def algebraic_DecoderIdeal_DecoderReferenceIdeal [hDecoderIdeal : Cert.DecoderIdeal.Facts] [hDecoderReferenceIdeal : Cert.DecoderReferenceIdeal.Facts] : Prop :=
  ∀ (m : (ℓ : Loc Cert.DecoderIdeal.nD Cert.DecoderIdeal.τ Cert.DecoderIdeal.sig) → Buf (Elt Ideal) ℓ) (g : Dev Cert.DecoderIdeal.nD → PrngReg)
    (m' : (ℓ : Loc Cert.DecoderReferenceIdeal.nD Cert.DecoderReferenceIdeal.τ Cert.DecoderReferenceIdeal.sig) → Buf (Elt Ideal) ℓ) (g' : Dev Cert.DecoderReferenceIdeal.nD → PrngReg), Pre_DecoderIdeal m →
    (∀ c : Dev Cert.DecoderIdeal.nD,
      m' ((c.tc : Thread Cert.DecoderReferenceIdeal.nD Cert.DecoderReferenceIdeal.τ).loc Cert.DecoderReferenceIdeal.main_arg0) = m ((c.tc : Thread Cert.DecoderIdeal.nD Cert.DecoderIdeal.τ).loc Cert.DecoderIdeal.main_arg0)
      ∧ m' ((c.tc : Thread Cert.DecoderReferenceIdeal.nD Cert.DecoderReferenceIdeal.τ).loc Cert.DecoderReferenceIdeal.main_arg1) = m ((c.tc : Thread Cert.DecoderIdeal.nD Cert.DecoderIdeal.τ).loc Cert.DecoderIdeal.main_arg1)
      ∧ m' ((c.tc : Thread Cert.DecoderReferenceIdeal.nD Cert.DecoderReferenceIdeal.τ).loc Cert.DecoderReferenceIdeal.main_arg2) = m ((c.tc : Thread Cert.DecoderIdeal.nD Cert.DecoderIdeal.τ).loc Cert.DecoderIdeal.main_arg2)
      ∧ m' ((c.tc : Thread Cert.DecoderReferenceIdeal.nD Cert.DecoderReferenceIdeal.τ).loc Cert.DecoderReferenceIdeal.main_arg3) = m ((c.tc : Thread Cert.DecoderIdeal.nD Cert.DecoderIdeal.τ).loc Cert.DecoderIdeal.main_arg3)
      ∧ m' ((c.tc : Thread Cert.DecoderReferenceIdeal.nD Cert.DecoderReferenceIdeal.τ).loc Cert.DecoderReferenceIdeal.main_arg4) = m ((c.tc : Thread Cert.DecoderIdeal.nD Cert.DecoderIdeal.τ).loc Cert.DecoderIdeal.main_arg4)
      ∧ m' ((c.tc : Thread Cert.DecoderReferenceIdeal.nD Cert.DecoderReferenceIdeal.τ).loc Cert.DecoderReferenceIdeal.main_arg5) = m ((c.tc : Thread Cert.DecoderIdeal.nD Cert.DecoderIdeal.τ).loc Cert.DecoderIdeal.main_arg5)
      ∧ m' ((c.tc : Thread Cert.DecoderReferenceIdeal.nD Cert.DecoderReferenceIdeal.τ).loc Cert.DecoderReferenceIdeal.main_arg6) = m ((c.tc : Thread Cert.DecoderIdeal.nD Cert.DecoderIdeal.τ).loc Cert.DecoderIdeal.main_arg6)) →
    ∃ (v0 : (c : Dev Cert.DecoderIdeal.nD) → Buf (Elt Ideal) ((c.tc : Thread Cert.DecoderIdeal.nD Cert.DecoderIdeal.τ).loc Cert.DecoderIdeal.main_v158)),
      θ_run (Cert.DecoderIdeal.defs (F := Ideal)) (onTc (τ := Cert.DecoderIdeal.τ) (Cert.DecoderIdeal.main (F := Ideal))) ⟨m, fun _ => 0, g⟩ (fun r => ∀ c : Dev Cert.DecoderIdeal.nD,
          r.2.mem ((c.tc : Thread Cert.DecoderIdeal.nD Cert.DecoderIdeal.τ).loc Cert.DecoderIdeal.main_v158) = v0 c
          ∧ r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
          ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
          ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
          ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
          ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
          ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
          ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6))
      ∧ θ_run (Cert.DecoderReferenceIdeal.defs (F := Ideal)) (onTc (τ := Cert.DecoderReferenceIdeal.τ) (Cert.DecoderReferenceIdeal.main (F := Ideal))) ⟨m', fun _ => 0, g'⟩ (fun r => ∀ c : Dev Cert.DecoderReferenceIdeal.nD,
          r.2.mem ((c.tc : Thread Cert.DecoderReferenceIdeal.nD Cert.DecoderReferenceIdeal.τ).loc Cert.DecoderReferenceIdeal.main_v270) = v0 c
          ∧ r.2.mem ((c.tc : Thread Cert.DecoderReferenceIdeal.nD Cert.DecoderReferenceIdeal.τ).loc Cert.DecoderReferenceIdeal.main_arg0) = m' ((c.tc : Thread Cert.DecoderReferenceIdeal.nD Cert.DecoderReferenceIdeal.τ).loc Cert.DecoderReferenceIdeal.main_arg0)
          ∧ r.2.mem ((c.tc : Thread Cert.DecoderReferenceIdeal.nD Cert.DecoderReferenceIdeal.τ).loc Cert.DecoderReferenceIdeal.main_arg1) = m' ((c.tc : Thread Cert.DecoderReferenceIdeal.nD Cert.DecoderReferenceIdeal.τ).loc Cert.DecoderReferenceIdeal.main_arg1)
          ∧ r.2.mem ((c.tc : Thread Cert.DecoderReferenceIdeal.nD Cert.DecoderReferenceIdeal.τ).loc Cert.DecoderReferenceIdeal.main_arg2) = m' ((c.tc : Thread Cert.DecoderReferenceIdeal.nD Cert.DecoderReferenceIdeal.τ).loc Cert.DecoderReferenceIdeal.main_arg2)
          ∧ r.2.mem ((c.tc : Thread Cert.DecoderReferenceIdeal.nD Cert.DecoderReferenceIdeal.τ).loc Cert.DecoderReferenceIdeal.main_arg3) = m' ((c.tc : Thread Cert.DecoderReferenceIdeal.nD Cert.DecoderReferenceIdeal.τ).loc Cert.DecoderReferenceIdeal.main_arg3)
          ∧ r.2.mem ((c.tc : Thread Cert.DecoderReferenceIdeal.nD Cert.DecoderReferenceIdeal.τ).loc Cert.DecoderReferenceIdeal.main_arg4) = m' ((c.tc : Thread Cert.DecoderReferenceIdeal.nD Cert.DecoderReferenceIdeal.τ).loc Cert.DecoderReferenceIdeal.main_arg4)
          ∧ r.2.mem ((c.tc : Thread Cert.DecoderReferenceIdeal.nD Cert.DecoderReferenceIdeal.τ).loc Cert.DecoderReferenceIdeal.main_arg5) = m' ((c.tc : Thread Cert.DecoderReferenceIdeal.nD Cert.DecoderReferenceIdeal.τ).loc Cert.DecoderReferenceIdeal.main_arg5)
          ∧ r.2.mem ((c.tc : Thread Cert.DecoderReferenceIdeal.nD Cert.DecoderReferenceIdeal.τ).loc Cert.DecoderReferenceIdeal.main_arg6) = m' ((c.tc : Thread Cert.DecoderReferenceIdeal.nD Cert.DecoderReferenceIdeal.τ).loc Cert.DecoderReferenceIdeal.main_arg6))

def preserves_Encoder_EncoderIdeal : Prop :=
  True

def algebraic_EncoderIdeal_EncoderReferenceIdeal [hEncoderIdeal : Cert.EncoderIdeal.Facts] [hEncoderReferenceIdeal : Cert.EncoderReferenceIdeal.Facts] : Prop :=
  ∀ (m : (ℓ : Loc Cert.EncoderIdeal.nD Cert.EncoderIdeal.τ Cert.EncoderIdeal.sig) → Buf (Elt Ideal) ℓ) (g : Dev Cert.EncoderIdeal.nD → PrngReg)
    (m' : (ℓ : Loc Cert.EncoderReferenceIdeal.nD Cert.EncoderReferenceIdeal.τ Cert.EncoderReferenceIdeal.sig) → Buf (Elt Ideal) ℓ) (g' : Dev Cert.EncoderReferenceIdeal.nD → PrngReg), Pre_EncoderIdeal m →
    (∀ c : Dev Cert.EncoderIdeal.nD,
      m' ((c.tc : Thread Cert.EncoderReferenceIdeal.nD Cert.EncoderReferenceIdeal.τ).loc Cert.EncoderReferenceIdeal.main_arg0) = m ((c.tc : Thread Cert.EncoderIdeal.nD Cert.EncoderIdeal.τ).loc Cert.EncoderIdeal.main_arg0)
      ∧ m' ((c.tc : Thread Cert.EncoderReferenceIdeal.nD Cert.EncoderReferenceIdeal.τ).loc Cert.EncoderReferenceIdeal.main_arg1) = m ((c.tc : Thread Cert.EncoderIdeal.nD Cert.EncoderIdeal.τ).loc Cert.EncoderIdeal.main_arg1)
      ∧ m' ((c.tc : Thread Cert.EncoderReferenceIdeal.nD Cert.EncoderReferenceIdeal.τ).loc Cert.EncoderReferenceIdeal.main_arg2) = m ((c.tc : Thread Cert.EncoderIdeal.nD Cert.EncoderIdeal.τ).loc Cert.EncoderIdeal.main_arg2)
      ∧ m' ((c.tc : Thread Cert.EncoderReferenceIdeal.nD Cert.EncoderReferenceIdeal.τ).loc Cert.EncoderReferenceIdeal.main_arg3) = m ((c.tc : Thread Cert.EncoderIdeal.nD Cert.EncoderIdeal.τ).loc Cert.EncoderIdeal.main_arg3)
      ∧ m' ((c.tc : Thread Cert.EncoderReferenceIdeal.nD Cert.EncoderReferenceIdeal.τ).loc Cert.EncoderReferenceIdeal.main_arg4) = m ((c.tc : Thread Cert.EncoderIdeal.nD Cert.EncoderIdeal.τ).loc Cert.EncoderIdeal.main_arg4)
      ∧ m' ((c.tc : Thread Cert.EncoderReferenceIdeal.nD Cert.EncoderReferenceIdeal.τ).loc Cert.EncoderReferenceIdeal.main_arg5) = m ((c.tc : Thread Cert.EncoderIdeal.nD Cert.EncoderIdeal.τ).loc Cert.EncoderIdeal.main_arg5)
      ∧ m' ((c.tc : Thread Cert.EncoderReferenceIdeal.nD Cert.EncoderReferenceIdeal.τ).loc Cert.EncoderReferenceIdeal.main_arg6) = m ((c.tc : Thread Cert.EncoderIdeal.nD Cert.EncoderIdeal.τ).loc Cert.EncoderIdeal.main_arg6)
      ∧ m' ((c.tc : Thread Cert.EncoderReferenceIdeal.nD Cert.EncoderReferenceIdeal.τ).loc Cert.EncoderReferenceIdeal.main_arg7) = m ((c.tc : Thread Cert.EncoderIdeal.nD Cert.EncoderIdeal.τ).loc Cert.EncoderIdeal.main_arg7)
      ∧ m' ((c.tc : Thread Cert.EncoderReferenceIdeal.nD Cert.EncoderReferenceIdeal.τ).loc Cert.EncoderReferenceIdeal.main_arg8) = m ((c.tc : Thread Cert.EncoderIdeal.nD Cert.EncoderIdeal.τ).loc Cert.EncoderIdeal.main_arg8)) →
    ∃ (v0 : (c : Dev Cert.EncoderIdeal.nD) → Buf (Elt Ideal) ((c.tc : Thread Cert.EncoderIdeal.nD Cert.EncoderIdeal.τ).loc Cert.EncoderIdeal.main_v60)),
      θ_run (Cert.EncoderIdeal.defs (F := Ideal)) (onTc (τ := Cert.EncoderIdeal.τ) (Cert.EncoderIdeal.main (F := Ideal))) ⟨m, fun _ => 0, g⟩ (fun r => ∀ c : Dev Cert.EncoderIdeal.nD,
          r.2.mem ((c.tc : Thread Cert.EncoderIdeal.nD Cert.EncoderIdeal.τ).loc Cert.EncoderIdeal.main_v60) = v0 c
          ∧ r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
          ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
          ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
          ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
          ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
          ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
          ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
          ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7)
          ∧ r.2.mem ((c.tc : Thread Cert.EncoderIdeal.nD Cert.EncoderIdeal.τ).loc Cert.EncoderIdeal.main_arg8) = m ((c.tc : Thread Cert.EncoderIdeal.nD Cert.EncoderIdeal.τ).loc Cert.EncoderIdeal.main_arg8))
      ∧ θ_run (Cert.EncoderReferenceIdeal.defs (F := Ideal)) (onTc (τ := Cert.EncoderReferenceIdeal.τ) (Cert.EncoderReferenceIdeal.main (F := Ideal))) ⟨m', fun _ => 0, g'⟩ (fun r => ∀ c : Dev Cert.EncoderReferenceIdeal.nD,
          r.2.mem ((c.tc : Thread Cert.EncoderReferenceIdeal.nD Cert.EncoderReferenceIdeal.τ).loc Cert.EncoderReferenceIdeal.main_v231) = v0 c
          ∧ r.2.mem ((c.tc : Thread Cert.EncoderReferenceIdeal.nD Cert.EncoderReferenceIdeal.τ).loc Cert.EncoderReferenceIdeal.main_arg0) = m' ((c.tc : Thread Cert.EncoderReferenceIdeal.nD Cert.EncoderReferenceIdeal.τ).loc Cert.EncoderReferenceIdeal.main_arg0)
          ∧ r.2.mem ((c.tc : Thread Cert.EncoderReferenceIdeal.nD Cert.EncoderReferenceIdeal.τ).loc Cert.EncoderReferenceIdeal.main_arg1) = m' ((c.tc : Thread Cert.EncoderReferenceIdeal.nD Cert.EncoderReferenceIdeal.τ).loc Cert.EncoderReferenceIdeal.main_arg1)
          ∧ r.2.mem ((c.tc : Thread Cert.EncoderReferenceIdeal.nD Cert.EncoderReferenceIdeal.τ).loc Cert.EncoderReferenceIdeal.main_arg2) = m' ((c.tc : Thread Cert.EncoderReferenceIdeal.nD Cert.EncoderReferenceIdeal.τ).loc Cert.EncoderReferenceIdeal.main_arg2)
          ∧ r.2.mem ((c.tc : Thread Cert.EncoderReferenceIdeal.nD Cert.EncoderReferenceIdeal.τ).loc Cert.EncoderReferenceIdeal.main_arg3) = m' ((c.tc : Thread Cert.EncoderReferenceIdeal.nD Cert.EncoderReferenceIdeal.τ).loc Cert.EncoderReferenceIdeal.main_arg3)
          ∧ r.2.mem ((c.tc : Thread Cert.EncoderReferenceIdeal.nD Cert.EncoderReferenceIdeal.τ).loc Cert.EncoderReferenceIdeal.main_arg4) = m' ((c.tc : Thread Cert.EncoderReferenceIdeal.nD Cert.EncoderReferenceIdeal.τ).loc Cert.EncoderReferenceIdeal.main_arg4)
          ∧ r.2.mem ((c.tc : Thread Cert.EncoderReferenceIdeal.nD Cert.EncoderReferenceIdeal.τ).loc Cert.EncoderReferenceIdeal.main_arg5) = m' ((c.tc : Thread Cert.EncoderReferenceIdeal.nD Cert.EncoderReferenceIdeal.τ).loc Cert.EncoderReferenceIdeal.main_arg5)
          ∧ r.2.mem ((c.tc : Thread Cert.EncoderReferenceIdeal.nD Cert.EncoderReferenceIdeal.τ).loc Cert.EncoderReferenceIdeal.main_arg6) = m' ((c.tc : Thread Cert.EncoderReferenceIdeal.nD Cert.EncoderReferenceIdeal.τ).loc Cert.EncoderReferenceIdeal.main_arg6)
          ∧ r.2.mem ((c.tc : Thread Cert.EncoderReferenceIdeal.nD Cert.EncoderReferenceIdeal.τ).loc Cert.EncoderReferenceIdeal.main_arg7) = m' ((c.tc : Thread Cert.EncoderReferenceIdeal.nD Cert.EncoderReferenceIdeal.τ).loc Cert.EncoderReferenceIdeal.main_arg7)
          ∧ r.2.mem ((c.tc : Thread Cert.EncoderReferenceIdeal.nD Cert.EncoderReferenceIdeal.τ).loc Cert.EncoderReferenceIdeal.main_arg8) = m' ((c.tc : Thread Cert.EncoderReferenceIdeal.nD Cert.EncoderReferenceIdeal.τ).loc Cert.EncoderReferenceIdeal.main_arg8))

def Claim : Prop :=
  ∃ (hDecoder : Cert.Decoder.Facts) (hDecoderIdeal : Cert.DecoderIdeal.Facts) (hDecoderReferenceIdeal : Cert.DecoderReferenceIdeal.Facts) (hEncoder : Cert.Encoder.Facts) (hEncoderIdeal : Cert.EncoderIdeal.Facts) (hEncoderReferenceIdeal : Cert.EncoderReferenceIdeal.Facts),
    quiescent_Decoder (hDecoder := hDecoder)
    ∧ quiescent_DecoderIdeal (hDecoderIdeal := hDecoderIdeal)
    ∧ quiescent_DecoderReferenceIdeal (hDecoderReferenceIdeal := hDecoderReferenceIdeal)
    ∧ quiescent_Encoder (hEncoder := hEncoder)
    ∧ quiescent_EncoderIdeal (hEncoderIdeal := hEncoderIdeal)
    ∧ quiescent_EncoderReferenceIdeal (hEncoderReferenceIdeal := hEncoderReferenceIdeal)
    ∧ preserves_Decoder_DecoderIdeal
    ∧ algebraic_DecoderIdeal_DecoderReferenceIdeal (hDecoderIdeal := hDecoderIdeal) (hDecoderReferenceIdeal := hDecoderReferenceIdeal)
    ∧ preserves_Encoder_EncoderIdeal
    ∧ algebraic_EncoderIdeal_EncoderReferenceIdeal (hEncoderIdeal := hEncoderIdeal) (hEncoderReferenceIdeal := hEncoderReferenceIdeal)
-- ==== Decoder.lean ====
abbrev S4x64x56x56 : Shape := ⟨4, ![4, 64, 56, 56]⟩
abbrev S64x128x3x3 : Shape := ⟨4, ![64, 128, 3, 3]⟩
abbrev S128 : Shape := ⟨1, ![128]⟩
abbrev S128x128x4x4 : Shape := ⟨4, ![128, 128, 4, 4]⟩
abbrev S128x3x4x4 : Shape := ⟨4, ![128, 3, 4, 4]⟩
abbrev S3 : Shape := ⟨1, ![3]⟩
abbrev S4x56x56x64 : Shape := ⟨4, ![4, 56, 56, 64]⟩
abbrev S3x3x64x128 : Shape := ⟨4, ![3, 3, 64, 128]⟩
abbrev S9x64x128 : Shape := ⟨3, ![9, 64, 128]⟩
abbrev S_ : Shape := ⟨0, ![]⟩
abbrev S4x58x58x64 : Shape := ⟨4, ![4, 58, 58, 64]⟩
abbrev S4x58x56x64 : Shape := ⟨4, ![4, 58, 56, 64]⟩
abbrev S128x128 : Shape := ⟨2, ![128, 128]⟩
abbrev S1x128 : Shape := ⟨2, ![1, 128]⟩
abbrev S4x3136x128 : Shape := ⟨3, ![4, 3136, 128]⟩
abbrev S1x58x56x64 : Shape := ⟨4, ![1, 58, 56, 64]⟩
abbrev S1x448x128 : Shape := ⟨3, ![1, 448, 128]⟩
abbrev S1x8x56x64 : Shape := ⟨4, ![1, 8, 56, 64]⟩
abbrev S8x56x64 : Shape := ⟨3, ![8, 56, 64]⟩
abbrev S448x64 : Shape := ⟨2, ![448, 64]⟩
abbrev S1x64x128 : Shape := ⟨3, ![1, 64, 128]⟩
abbrev S64x128 : Shape := ⟨2, ![64, 128]⟩
abbrev S448x128 : Shape := ⟨2, ![448, 128]⟩
abbrev S4x56x56x128 : Shape := ⟨4, ![4, 56, 56, 128]⟩
abbrev S4x58x58x128 : Shape := ⟨4, ![4, 58, 58, 128]⟩
abbrev S4x58x56x128 : Shape := ⟨4, ![4, 58, 56, 128]⟩
abbrev S128x128x1x1 : Shape := ⟨4, ![128, 128, 1, 1]⟩
abbrev S1x128x128 : Shape := ⟨3, ![1, 128, 128]⟩
abbrev S16x128x128 : Shape := ⟨3, ![16, 128, 128]⟩
abbrev S4x3136x512 : Shape := ⟨3, ![4, 3136, 512]⟩
abbrev S1x58x56x128 : Shape := ⟨4, ![1, 58, 56, 128]⟩
abbrev S1x448x512 : Shape := ⟨3, ![1, 448, 512]⟩
abbrev S1x8x56x128 : Shape := ⟨4, ![1, 8, 56, 128]⟩
abbrev S8x56x128 : Shape := ⟨3, ![8, 56, 128]⟩
abbrev S4x56x56x2x2x128 : Shape := ⟨6, ![4, 56, 56, 2, 2, 128]⟩
abbrev S4x56x2x56x2x128 : Shape := ⟨6, ![4, 56, 2, 56, 2, 128]⟩
abbrev S4x112x112x128 : Shape := ⟨4, ![4, 112, 112, 128]⟩
abbrev S4x114x114x128 : Shape := ⟨4, ![4, 114, 114, 128]⟩
abbrev S4x114x112x128 : Shape := ⟨4, ![4, 114, 112, 128]⟩
abbrev S128x3x1x1 : Shape := ⟨4, ![128, 3, 1, 1]⟩
abbrev S128x3 : Shape := ⟨2, ![128, 3]⟩
abbrev S128x12 : Shape := ⟨2, ![128, 12]⟩
abbrev S1x128x12 : Shape := ⟨3, ![1, 128, 12]⟩
abbrev S3x128x12 : Shape := ⟨3, ![3, 128, 12]⟩
abbrev S9x128x12 : Shape := ⟨3, ![9, 128, 12]⟩
abbrev S1x3 : Shape := ⟨2, ![1, 3]⟩
abbrev S4x3 : Shape := ⟨2, ![4, 3]⟩
abbrev S12 : Shape := ⟨1, ![12]⟩
abbrev S1x12 : Shape := ⟨2, ![1, 12]⟩
abbrev S4x12544x12 : Shape := ⟨3, ![4, 12544, 12]⟩
abbrev S1x114x112x128 : Shape := ⟨4, ![1, 114, 112, 128]⟩
abbrev S1x896x12 : Shape := ⟨3, ![1, 896, 12]⟩
abbrev S1x8x112x128 : Shape := ⟨4, ![1, 8, 112, 128]⟩
abbrev S8x112x128 : Shape := ⟨3, ![8, 112, 128]⟩
abbrev S896x128 : Shape := ⟨2, ![896, 128]⟩
abbrev S896x12 : Shape := ⟨2, ![896, 12]⟩
abbrev S4x112x112x2x2x3 : Shape := ⟨6, ![4, 112, 112, 2, 2, 3]⟩
abbrev S4x112x2x112x2x3 : Shape := ⟨6, ![4, 112, 2, 112, 2, 3]⟩
abbrev S4x224x224x3 : Shape := ⟨4, ![4, 224, 224, 3]⟩
abbrev S4x3x224x224 : Shape := ⟨4, ![4, 3, 224, 224]⟩

abbrev nBuf : Space → Nat
  | .hbm => 194
  | .vmem => 32
  | .smem => 0
  | _ => 0

abbrev hbmTy0_0 (i : Nat) : BufTy := match i % 128 with
  | 0 => ⟨S4x64x56x56, .f32⟩
  | 1 => ⟨S64x128x3x3, .f32⟩
  | 2 => ⟨S128, .f32⟩
  | 3 => ⟨S128x128x4x4, .f32⟩
  | 4 => ⟨S128, .f32⟩
  | 5 => ⟨S128x3x4x4, .f32⟩
  | 6 => ⟨S3, .f32⟩
  | 7 => ⟨S4x56x56x64, .f32⟩
  | 8 => ⟨S3x3x64x128, .f32⟩
  | 9 => ⟨S3x3x64x128, .f32⟩
  | 10 => ⟨S9x64x128, .f32⟩
  | 11 => ⟨S_, .i32⟩
  | 12 => ⟨S_, .f32⟩
  | 13 => ⟨S4x58x58x64, .f32⟩
  | 14 => ⟨S4x58x56x64, .f32⟩
  | 15 => ⟨S4x58x56x64, .f32⟩
  | 16 => ⟨S4x58x56x64, .f32⟩
  | 17 => ⟨S_, .f32⟩
  | 18 => ⟨S128x128, .f32⟩
  | 19 => ⟨S_, .f32⟩
  | 20 => ⟨S128, .f32⟩
  | 21 => ⟨S1x128, .f32⟩
  | 22 => ⟨S1x128, .f32⟩
  | 23 => ⟨S4x3136x128, .f32⟩
  | 24 => ⟨S4x56x56x128, .f32⟩
  | 25 => ⟨S_, .i32⟩
  | 26 => ⟨S_, .f32⟩
  | 27 => ⟨S4x58x58x128, .f32⟩
  | 28 => ⟨S4x58x56x128, .f32⟩
  | 29 => ⟨S4x58x56x128, .f32⟩
  | 30 => ⟨S4x58x56x128, .f32⟩
  | 31 => ⟨S128x128x1x1, .f32⟩
  | 32 => ⟨S128x128, .f32⟩
  | 33 => ⟨S128x128x1x1, .f32⟩
  | 34 => ⟨S128x128, .f32⟩
  | 35 => ⟨S128x128x1x1, .f32⟩
  | 36 => ⟨S128x128, .f32⟩
  | 37 => ⟨S128x128x1x1, .f32⟩
  | 38 => ⟨S128x128, .f32⟩
  | 39 => ⟨S128x128x1x1, .f32⟩
  | 40 => ⟨S128x128, .f32⟩
  | 41 => ⟨S128x128x1x1, .f32⟩
  | 42 => ⟨S128x128, .f32⟩
  | 43 => ⟨S128x128x1x1, .f32⟩
  | 44 => ⟨S128x128, .f32⟩
  | 45 => ⟨S128x128x1x1, .f32⟩
  | 46 => ⟨S128x128, .f32⟩
  | 47 => ⟨S128x128x1x1, .f32⟩
  | 48 => ⟨S128x128, .f32⟩
  | 49 => ⟨S128x128x1x1, .f32⟩
  | 50 => ⟨S128x128, .f32⟩
  | 51 => ⟨S128x128x1x1, .f32⟩
  | 52 => ⟨S128x128, .f32⟩
  | 53 => ⟨S128x128x1x1, .f32⟩
  | 54 => ⟨S128x128, .f32⟩
  | 55 => ⟨S128x128x1x1, .f32⟩
  | 56 => ⟨S128x128, .f32⟩
  | 57 => ⟨S128x128x1x1, .f32⟩
  | 58 => ⟨S128x128, .f32⟩
  | 59 => ⟨S128x128x1x1, .f32⟩
  | 60 => ⟨S128x128, .f32⟩
  | 61 => ⟨S128x128x1x1, .f32⟩
  | 62 => ⟨S128x128, .f32⟩
  | 63 => ⟨S1x128x128, .f32⟩
  | 64 => ⟨S1x128x128, .f32⟩
  | 65 => ⟨S1x128x128, .f32⟩
  | 66 => ⟨S1x128x128, .f32⟩
  | 67 => ⟨S1x128x128, .f32⟩
  | 68 => ⟨S1x128x128, .f32⟩
  | 69 => ⟨S1x128x128, .f32⟩
  | 70 => ⟨S1x128x128, .f32⟩
  | 71 => ⟨S1x128x128, .f32⟩
  | 72 => ⟨S1x128x128, .f32⟩
  | 73 => ⟨S1x128x128, .f32⟩
  | 74 => ⟨S1x128x128, .f32⟩
  | 75 => ⟨S1x128x128, .f32⟩
  | 76 => ⟨S1x128x128, .f32⟩
  | 77 => ⟨S1x128x128, .f32⟩
  | 78 => ⟨S1x128x128, .f32⟩
  | 79 => ⟨S16x128x128, .f32⟩
  | 80 => ⟨S1x128, .f32⟩
  | 81 => ⟨S4x3136x512, .f32⟩
  | 82 => ⟨S4x56x56x2x2x128, .f32⟩
  | 83 => ⟨S4x56x2x56x2x128, .f32⟩
  | 84 => ⟨S4x112x112x128, .f32⟩
  | 85 => ⟨S_, .i32⟩
  | 86 => ⟨S_, .f32⟩
  | 87 => ⟨S4x114x114x128, .f32⟩
  | 88 => ⟨S4x114x112x128, .f32⟩
  | 89 => ⟨S4x114x112x128, .f32⟩
  | 90 => ⟨S4x114x112x128, .f32⟩
  | 91 => ⟨S128x3x1x1, .f32⟩
  | 92 => ⟨S128x3, .f32⟩
  | 93 => ⟨S_, .f32⟩
  | 94 => ⟨S128x3, .f32⟩
  | 95 => ⟨S_, .f32⟩
  | 96 => ⟨S128x3, .f32⟩
  | 97 => ⟨S_, .f32⟩
  | 98 => ⟨S128x3, .f32⟩
  | 99 => ⟨S128x12, .f32⟩
  | 100 => ⟨S128x3x1x1, .f32⟩
  | 101 => ⟨S128x3, .f32⟩
  | 102 => ⟨S128x3x1x1, .f32⟩
  | 103 => ⟨S128x3, .f32⟩
  | 104 => ⟨S_, .f32⟩
  | 105 => ⟨S128x3, .f32⟩
  | 106 => ⟨S_, .f32⟩
  | 107 => ⟨S128x3, .f32⟩
  | 108 => ⟨S128x12, .f32⟩
  | 109 => ⟨S_, .f32⟩
  | 110 => ⟨S128x3, .f32⟩
  | 111 => ⟨S128x3x1x1, .f32⟩
  | 112 => ⟨S128x3, .f32⟩
  | 113 => ⟨S_, .f32⟩
  | 114 => ⟨S128x3, .f32⟩
  | 115 => ⟨S_, .f32⟩
  | 116 => ⟨S128x3, .f32⟩
  | 117 => ⟨S128x12, .f32⟩
  | 118 => ⟨S1x128x12, .f32⟩
  | 119 => ⟨S1x128x12, .f32⟩
  | 120 => ⟨S1x128x12, .f32⟩
  | 121 => ⟨S3x128x12, .f32⟩
  | 122 => ⟨S128x3x1x1, .f32⟩
  | 123 => ⟨S128x3, .f32⟩
  | 124 => ⟨S_, .f32⟩
  | 125 => ⟨S128x3, .f32⟩
  | 126 => ⟨S128x3x1x1, .f32⟩
  | 127 => ⟨S128x3, .f32⟩
  | _ => ⟨S4x64x56x56, .f32⟩

abbrev hbmTy0_1 (i : Nat) : BufTy := match i % 128 with
  | 0 => ⟨S_, .f32⟩
  | 1 => ⟨S128x3, .f32⟩
  | 2 => ⟨S128x12, .f32⟩
  | 3 => ⟨S128x3x1x1, .f32⟩
  | 4 => ⟨S128x3, .f32⟩
  | 5 => ⟨S128x3x1x1, .f32⟩
  | 6 => ⟨S128x3, .f32⟩
  | 7 => ⟨S128x3x1x1, .f32⟩
  | 8 => ⟨S128x3, .f32⟩
  | 9 => ⟨S128x3x1x1, .f32⟩
  | 10 => ⟨S128x3, .f32⟩
  | 11 => ⟨S128x12, .f32⟩
  | 12 => ⟨S_, .f32⟩
  | 13 => ⟨S128x3, .f32⟩
  | 14 => ⟨S128x3x1x1, .f32⟩
  | 15 => ⟨S128x3, .f32⟩
  | 16 => ⟨S_, .f32⟩
  | 17 => ⟨S128x3, .f32⟩
  | 18 => ⟨S128x3x1x1, .f32⟩
  | 19 => ⟨S128x3, .f32⟩
  | 20 => ⟨S128x12, .f32⟩
  | 21 => ⟨S1x128x12, .f32⟩
  | 22 => ⟨S1x128x12, .f32⟩
  | 23 => ⟨S1x128x12, .f32⟩
  | 24 => ⟨S3x128x12, .f32⟩
  | 25 => ⟨S_, .f32⟩
  | 26 => ⟨S128x3, .f32⟩
  | 27 => ⟨S_, .f32⟩
  | 28 => ⟨S128x3, .f32⟩
  | 29 => ⟨S128x3x1x1, .f32⟩
  | 30 => ⟨S128x3, .f32⟩
  | 31 => ⟨S_, .f32⟩
  | 32 => ⟨S128x3, .f32⟩
  | 33 => ⟨S128x12, .f32⟩
  | 34 => ⟨S_, .f32⟩
  | 35 => ⟨S128x3, .f32⟩
  | 36 => ⟨S_, .f32⟩
  | 37 => ⟨S128x3, .f32⟩
  | 38 => ⟨S128x3x1x1, .f32⟩
  | 39 => ⟨S128x3, .f32⟩
  | 40 => ⟨S128x3x1x1, .f32⟩
  | 41 => ⟨S128x3, .f32⟩
  | 42 => ⟨S128x12, .f32⟩
  | 43 => ⟨S_, .f32⟩
  | 44 => ⟨S128x3, .f32⟩
  | 45 => ⟨S_, .f32⟩
  | 46 => ⟨S128x3, .f32⟩
  | 47 => ⟨S_, .f32⟩
  | 48 => ⟨S128x3, .f32⟩
  | 49 => ⟨S128x3x1x1, .f32⟩
  | 50 => ⟨S128x3, .f32⟩
  | 51 => ⟨S128x12, .f32⟩
  | 52 => ⟨S1x128x12, .f32⟩
  | 53 => ⟨S1x128x12, .f32⟩
  | 54 => ⟨S1x128x12, .f32⟩
  | 55 => ⟨S3x128x12, .f32⟩
  | 56 => ⟨S9x128x12, .f32⟩
  | 57 => ⟨S1x3, .f32⟩
  | 58 => ⟨S4x3, .f32⟩
  | 59 => ⟨S12, .f32⟩
  | 60 => ⟨S1x12, .f32⟩
  | 61 => ⟨S4x12544x12, .f32⟩
  | 62 => ⟨S4x112x112x2x2x3, .f32⟩
  | 63 => ⟨S4x112x2x112x2x3, .f32⟩
  | 64 => ⟨S4x224x224x3, .f32⟩
  | 65 => ⟨S4x3x224x224, .f32⟩
  | _ => ⟨S4x64x56x56, .f32⟩

abbrev hbmTy (i : Nat) : BufTy := match i / 128 with
  | 0 => hbmTy0_0 i
  | 1 => hbmTy0_1 i
  | _ => ⟨S4x64x56x56, .f32⟩

abbrev bufTy : (tb : Table) → Fin (tcTables nBuf tb) → BufTy
  | .hbm, ⟨i, _⟩ => hbmTy i
  | .local _ .vmem, ⟨0, _⟩ => ⟨S9x64x128, .f32⟩
  | .local _ .vmem, ⟨1, _⟩ => ⟨S1x128, .f32⟩
  | .local _ .vmem, ⟨2, _⟩ => ⟨S128x128, .f32⟩
  | .local _ .vmem, ⟨3, _⟩ => ⟨S1x128, .f32⟩
  | .local _ .vmem, ⟨4, _⟩ => ⟨S1x58x56x64, .f32⟩
  | .local _ .vmem, ⟨5, _⟩ => ⟨S1x58x56x64, .f32⟩
  | .local _ .vmem, ⟨6, _⟩ => ⟨S1x58x56x64, .f32⟩
  | .local _ .vmem, ⟨7, _⟩ => ⟨S1x58x56x64, .f32⟩
  | .local _ .vmem, ⟨8, _⟩ => ⟨S1x58x56x64, .f32⟩
  | .local _ .vmem, ⟨9, _⟩ => ⟨S1x58x56x64, .f32⟩
  | .local _ .vmem, ⟨10, _⟩ => ⟨S1x448x128, .f32⟩
  | .local _ .vmem, ⟨11, _⟩ => ⟨S1x448x128, .f32⟩
  | .local _ .vmem, ⟨12, _⟩ => ⟨S16x128x128, .f32⟩
  | .local _ .vmem, ⟨13, _⟩ => ⟨S1x128, .f32⟩
  | .local _ .vmem, ⟨14, _⟩ => ⟨S1x58x56x128, .f32⟩
  | .local _ .vmem, ⟨15, _⟩ => ⟨S1x58x56x128, .f32⟩
  | .local _ .vmem, ⟨16, _⟩ => ⟨S1x58x56x128, .f32⟩
  | .local _ .vmem, ⟨17, _⟩ => ⟨S1x58x56x128, .f32⟩
  | .local _ .vmem, ⟨18, _⟩ => ⟨S1x58x56x128, .f32⟩
  | .local _ .vmem, ⟨19, _⟩ => ⟨S1x58x56x128, .f32⟩
  | .local _ .vmem, ⟨20, _⟩ => ⟨S1x448x512, .f32⟩
  | .local _ .vmem, ⟨21, _⟩ => ⟨S1x448x512, .f32⟩
  | .local _ .vmem, ⟨22, _⟩ => ⟨S9x128x12, .f32⟩
  | .local _ .vmem, ⟨23, _⟩ => ⟨S1x12, .f32⟩
  | .local _ .vmem, ⟨24, _⟩ => ⟨S1x114x112x128, .f32⟩
  | .local _ .vmem, ⟨25, _⟩ => ⟨S1x114x112x128, .f32⟩
  | .local _ .vmem, ⟨26, _⟩ => ⟨S1x114x112x128, .f32⟩
  | .local _ .vmem, ⟨27, _⟩ => ⟨S1x114x112x128, .f32⟩
  | .local _ .vmem, ⟨28, _⟩ => ⟨S1x114x112x128, .f32⟩
  | .local _ .vmem, ⟨29, _⟩ => ⟨S1x114x112x128, .f32⟩
  | .local _ .vmem, ⟨30, _⟩ => ⟨S1x896x12, .f32⟩
  | .local _ .vmem, ⟨31, _⟩ => ⟨S1x896x12, .f32⟩
  | _, _ => ⟨S4x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call1_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_c_2 : Ref sig .tc := ⟨.hbm, 85, rfl⟩
abbrev main_call2_v0 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_3 : Ref sig .tc := ⟨.hbm, 93, rfl⟩
abbrev main_v78 : Ref sig .tc := ⟨.hbm, 94, rfl⟩
abbrev main_cst_4 : Ref sig .tc := ⟨.hbm, 95, rfl⟩
abbrev main_v79 : Ref sig .tc := ⟨.hbm, 96, rfl⟩
abbrev main_cst_5 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_6 : Ref sig .tc := ⟨.hbm, 104, rfl⟩
abbrev main_v86 : Ref sig .tc := ⟨.hbm, 105, rfl⟩
abbrev main_cst_7 : Ref sig .tc := ⟨.hbm, 106, rfl⟩
abbrev main_v87 : Ref sig .tc := ⟨.hbm, 107, rfl⟩
abbrev main_v88 : Ref sig .tc := ⟨.hbm, 108, rfl⟩
abbrev main_cst_8 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_9 : Ref sig .tc := ⟨.hbm, 113, rfl⟩
abbrev main_v92 : Ref sig .tc := ⟨.hbm, 114, rfl⟩
abbrev main_cst_10 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_11 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_12 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_13 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_14 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_15 : Ref sig .tc := ⟨.hbm, 153, rfl⟩
abbrev main_v126 : Ref sig .tc := ⟨.hbm, 154, rfl⟩
abbrev main_cst_16 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_cst_17 : Ref sig .tc := ⟨.hbm, 159, rfl⟩
abbrev main_v130 : Ref sig .tc := ⟨.hbm, 160, rfl⟩
abbrev main_v131 : Ref sig .tc := ⟨.hbm, 161, rfl⟩
abbrev main_cst_18 : Ref sig .tc := ⟨.hbm, 162, rfl⟩
abbrev main_v132 : Ref sig .tc := ⟨.hbm, 163, rfl⟩
abbrev main_cst_19 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_20 : Ref sig .tc := ⟨.hbm, 171, rfl⟩
abbrev main_v139 : Ref sig .tc := ⟨.hbm, 172, rfl⟩
abbrev main_cst_21 : Ref sig .tc := ⟨.hbm, 173, rfl⟩
abbrev main_v140 : Ref sig .tc := ⟨.hbm, 174, rfl⟩
abbrev main_cst_22 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨2, ![4, 7], ![false, false]⟩

def k0_off1 (i : grid0.Coords) (c0_i32 : BitVec 32) : Fin 4 → Nat :=
  let c0 : Index := 0#32
  let c8_i32 : BitVec 32 := 8#32
  let arg1 : BitVec 32 := BitVec.ofNat 32 (i 1).val
  let v0 : BitVec 32 := Scalar.muli c8_i32 arg1
  let v1 : BitVec 32 := Scalar.addi v0 c0_i32
  let v2 : Index := Scalar.indexCast v1
  let c0_0 : Index := 0#32
  let c0_1 : Index := 0#32
  ![0, v2.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S9x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x58x56x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x58x56x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x58x56x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x448x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 7], ![false, false]⟩

def k1_off1 (i : grid1.Coords) (c1_i32 : BitVec 32) : Fin 4 → Nat :=
  let c0 : Index := 0#32
  let c8_i32 : BitVec 32 := 8#32
  let arg1 : BitVec 32 := BitVec.ofNat 32 (i 1).val
  let v0 : BitVec 32 := Scalar.muli c8_i32 arg1
  let v1 : BitVec 32 := Scalar.addi v0 c1_i32
  let v2 : Index := Scalar.indexCast v1
  let c0_0 : Index := 0#32
  let c0_1 : Index := 0#32
  ![0, v2.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S16x128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x58x56x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x58x56x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x58x56x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x448x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 14], ![false, false]⟩

def k2_off1 (i : grid2.Coords) (c0_i32 : BitVec 32) : Fin 4 → Nat :=
  let c0 : Index := 0#32
  let c8_i32 : BitVec 32 := 8#32
  let arg1 : BitVec 32 := BitVec.ofNat 32 (i 1).val
  let v0 : BitVec 32 := Scalar.muli c8_i32 arg1
  let v1 : BitVec 32 := Scalar.addi v0 c0_i32
  let v2 : Index := Scalar.indexCast v1
  let c0_0 : Index := 0#32
  let c0_1 : Index := 0#32
  ![0, v2.toNat, 0, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .vmem S9x128x12 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S1x12 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x114x112x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x114x112x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x114x112x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x896x12 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== DecoderReferenceIdeal.lean ====
abbrev S4x64x56x56 : Shape := ⟨4, ![4, 64, 56, 56]⟩
abbrev S64x128x3x3 : Shape := ⟨4, ![64, 128, 3, 3]⟩
abbrev S128 : Shape := ⟨1, ![128]⟩
abbrev S128x128x4x4 : Shape := ⟨4, ![128, 128, 4, 4]⟩
abbrev S128x3x4x4 : Shape := ⟨4, ![128, 3, 4, 4]⟩
abbrev S3 : Shape := ⟨1, ![3]⟩
abbrev S64x128x9 : Shape := ⟨3, ![64, 128, 9]⟩
abbrev S64x128x1 : Shape := ⟨3, ![64, 128, 1]⟩
abbrev S64x128 : Shape := ⟨2, ![64, 128]⟩
abbrev S128x64 : Shape := ⟨2, ![128, 64]⟩
abbrev S128x128x16 : Shape := ⟨3, ![128, 128, 16]⟩
abbrev S128x128x1 : Shape := ⟨3, ![128, 128, 1]⟩
abbrev S128x128 : Shape := ⟨2, ![128, 128]⟩
abbrev S128x3x16 : Shape := ⟨3, ![128, 3, 16]⟩
abbrev S128x3x1 : Shape := ⟨3, ![128, 3, 1]⟩
abbrev S128x3 : Shape := ⟨2, ![128, 3]⟩
abbrev S3x128 : Shape := ⟨2, ![3, 128]⟩
abbrev S_ : Shape := ⟨0, ![]⟩
abbrev S4x64x58x58 : Shape := ⟨4, ![4, 64, 58, 58]⟩
abbrev S128x4x56x56 : Shape := ⟨4, ![128, 4, 56, 56]⟩
abbrev S4x128x56x56 : Shape := ⟨4, ![4, 128, 56, 56]⟩
abbrev S1x128x1x1 : Shape := ⟨4, ![1, 128, 1, 1]⟩
abbrev S4x128x115x115 : Shape := ⟨4, ![4, 128, 115, 115]⟩
abbrev S4x128x112x112 : Shape := ⟨4, ![4, 128, 112, 112]⟩
abbrev S128x4x112x112 : Shape := ⟨4, ![128, 4, 112, 112]⟩
abbrev S4x128x227x227 : Shape := ⟨4, ![4, 128, 227, 227]⟩
abbrev S4x128x224x224 : Shape := ⟨4, ![4, 128, 224, 224]⟩
abbrev S3x4x224x224 : Shape := ⟨4, ![3, 4, 224, 224]⟩
abbrev S4x3x224x224 : Shape := ⟨4, ![4, 3, 224, 224]⟩
abbrev S1x3x1x1 : Shape := ⟨4, ![1, 3, 1, 1]⟩

abbrev nBuf : Space → Nat
  | .hbm => 285
  | .vmem => 0
  | .smem => 0
  | _ => 0

abbrev hbmTy0_0 (i : Nat) : BufTy := match i % 128 with
  | 0 => ⟨S4x64x56x56, .f32⟩
  | 1 => ⟨S64x128x3x3, .f32⟩
  | 2 => ⟨S128, .f32⟩
  | 3 => ⟨S128x128x4x4, .f32⟩
  | 4 => ⟨S128, .f32⟩
  | 5 => ⟨S128x3x4x4, .f32⟩
  | 6 => ⟨S3, .f32⟩
  | 7 => ⟨S64x128x9, .f32⟩
  | 8 => ⟨S64x128x1, .f32⟩
  | 9 => ⟨S64x128, .f32⟩
  | 10 => ⟨S64x128x1, .f32⟩
  | 11 => ⟨S64x128, .f32⟩
  | 12 => ⟨S64x128x1, .f32⟩
  | 13 => ⟨S64x128, .f32⟩
  | 14 => ⟨S64x128x1, .f32⟩
  | 15 => ⟨S64x128, .f32⟩
  | 16 => ⟨S64x128x1, .f32⟩
  | 17 => ⟨S64x128, .f32⟩
  | 18 => ⟨S64x128x1, .f32⟩
  | 19 => ⟨S64x128, .f32⟩
  | 20 => ⟨S64x128x1, .f32⟩
  | 21 => ⟨S64x128, .f32⟩
  | 22 => ⟨S64x128x1, .f32⟩
  | 23 => ⟨S64x128, .f32⟩
  | 24 => ⟨S64x128x1, .f32⟩
  | 25 => ⟨S64x128, .f32⟩
  | 26 => ⟨S128x64, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S128x64, .f32⟩
  | 33 => ⟨S128x64, .f32⟩
  | 34 => ⟨S128x64, .f32⟩
  | 35 => ⟨S128x128x16, .f32⟩
  | 36 => ⟨S128x128x1, .f32⟩
  | 37 => ⟨S128x128, .f32⟩
  | 38 => ⟨S128x128x1, .f32⟩
  | 39 => ⟨S128x128, .f32⟩
  | 40 => ⟨S128x128x1, .f32⟩
  | 41 => ⟨S128x128, .f32⟩
  | 42 => ⟨S128x128x1, .f32⟩
  | 43 => ⟨S128x128, .f32⟩
  | 44 => ⟨S128x128x1, .f32⟩
  | 45 => ⟨S128x128, .f32⟩
  | 46 => ⟨S128x128x1, .f32⟩
  | 47 => ⟨S128x128, .f32⟩
  | 48 => ⟨S128x128x1, .f32⟩
  | 49 => ⟨S128x128, .f32⟩
  | 50 => ⟨S128x128x1, .f32⟩
  | 51 => ⟨S128x128, .f32⟩
  | 52 => ⟨S128x128x1, .f32⟩
  | 53 => ⟨S128x128, .f32⟩
  | 54 => ⟨S128x128x1, .f32⟩
  | 55 => ⟨S128x128, .f32⟩
  | 56 => ⟨S128x128x1, .f32⟩
  | 57 => ⟨S128x128, .f32⟩
  | 58 => ⟨S128x128x1, .f32⟩
  | 59 => ⟨S128x128, .f32⟩
  | 60 => ⟨S128x128x1, .f32⟩
  | 61 => ⟨S128x128, .f32⟩
  | 62 => ⟨S128x128x1, .f32⟩
  | 63 => ⟨S128x128, .f32⟩
  | 64 => ⟨S128x128x1, .f32⟩
  | 65 => ⟨S128x128, .f32⟩
  | 66 => ⟨S128x128x1, .f32⟩
  | 67 => ⟨S128x128, .f32⟩
  | 68 => ⟨S128x128, .f32⟩
  | 69 => ⟨S128x128, .f32⟩
  | 70 => ⟨S128x128, .f32⟩
  | 71 => ⟨S128x128, .f32⟩
  | 72 => ⟨S128x128, .f32⟩
  | 73 => ⟨S128x128, .f32⟩
  | 74 => ⟨S128x128, .f32⟩
  | 75 => ⟨S128x128, .f32⟩
  | 76 => ⟨S128x128, .f32⟩
  | 77 => ⟨S128x128, .f32⟩
  | 78 => ⟨S128x128, .f32⟩
  | 79 => ⟨S128x128, .f32⟩
  | 80 => ⟨S128x128, .f32⟩
  | 81 => ⟨S128x128, .f32⟩
  | 82 => ⟨S128x128, .f32⟩
  | 83 => ⟨S128x128, .f32⟩
  | 84 => ⟨S128x3x16, .f32⟩
  | 85 => ⟨S128x3x1, .f32⟩
  | 86 => ⟨S128x3, .f32⟩
  | 87 => ⟨S128x3x1, .f32⟩
  | 88 => ⟨S128x3, .f32⟩
  | 89 => ⟨S128x3x1, .f32⟩
  | 90 => ⟨S128x3, .f32⟩
  | 91 => ⟨S128x3x1, .f32⟩
  | 92 => ⟨S128x3, .f32⟩
  | 93 => ⟨S128x3x1, .f32⟩
  | 94 => ⟨S128x3, .f32⟩
  | 95 => ⟨S128x3x1, .f32⟩
  | 96 => ⟨S128x3, .f32⟩
  | 97 => ⟨S128x3x1, .f32⟩
  | 98 => ⟨S128x3, .f32⟩
  | 99 => ⟨S128x3x1, .f32⟩
  | 100 => ⟨S128x3, .f32⟩
  | 101 => ⟨S128x3x1, .f32⟩
  | 102 => ⟨S128x3, .f32⟩
  | 103 => ⟨S128x3x1, .f32⟩
  | 104 => ⟨S128x3, .f32⟩
  | 105 => ⟨S128x3x1, .f32⟩
  | 106 => ⟨S128x3, .f32⟩
  | 107 => ⟨S128x3x1, .f32⟩
  | 108 => ⟨S128x3, .f32⟩
  | 109 => ⟨S128x3x1, .f32⟩
  | 110 => ⟨S128x3, .f32⟩
  | 111 => ⟨S128x3x1, .f32⟩
  | 112 => ⟨S128x3, .f32⟩
  | 113 => ⟨S128x3x1, .f32⟩
  | 114 => ⟨S128x3, .f32⟩
  | 115 => ⟨S128x3x1, .f32⟩
  | 116 => ⟨S128x3, .f32⟩
  | 117 => ⟨S3x128, .f32⟩
  | 118 => ⟨S3x128, .f32⟩
  | 119 => ⟨S3x128, .f32⟩
  | 120 => ⟨S3x128, .f32⟩
  | 121 => ⟨S3x128, .f32⟩
  | 122 => ⟨S3x128, .f32⟩
  | 123 => ⟨S3x128, .f32⟩
  | 124 => ⟨S3x128, .f32⟩
  | 125 => ⟨S3x128, .f32⟩
  | 126 => ⟨S3x128, .f32⟩
  | 127 => ⟨S3x128, .f32⟩
  | _ => ⟨S4x64x56x56, .f32⟩

abbrev hbmTy0_1 (i : Nat) : BufTy := match i % 128 with
  | 0 => ⟨S3x128, .f32⟩
  | 1 => ⟨S3x128, .f32⟩
  | 2 => ⟨S3x128, .f32⟩
  | 3 => ⟨S3x128, .f32⟩
  | 4 => ⟨S3x128, .f32⟩
  | 5 => ⟨S_, .f32⟩
  | 6 => ⟨S4x64x58x58, .f32⟩
  | 7 => ⟨S4x64x56x56, .f32⟩
  | 8 => ⟨S128x4x56x56, .f32⟩
  | 9 => ⟨S4x64x56x56, .f32⟩
  | 10 => ⟨S128x4x56x56, .f32⟩
  | 11 => ⟨S128x4x56x56, .f32⟩
  | 12 => ⟨S4x64x56x56, .f32⟩
  | 13 => ⟨S128x4x56x56, .f32⟩
  | 14 => ⟨S128x4x56x56, .f32⟩
  | 15 => ⟨S4x64x56x56, .f32⟩
  | 16 => ⟨S128x4x56x56, .f32⟩
  | 17 => ⟨S128x4x56x56, .f32⟩
  | 18 => ⟨S4x64x56x56, .f32⟩
  | 19 => ⟨S128x4x56x56, .f32⟩
  | 20 => ⟨S128x4x56x56, .f32⟩
  | 21 => ⟨S4x64x56x56, .f32⟩
  | 22 => ⟨S128x4x56x56, .f32⟩
  | 23 => ⟨S128x4x56x56, .f32⟩
  | 24 => ⟨S4x64x56x56, .f32⟩
  | 25 => ⟨S128x4x56x56, .f32⟩
  | 26 => ⟨S128x4x56x56, .f32⟩
  | 27 => ⟨S4x64x56x56, .f32⟩
  | 28 => ⟨S128x4x56x56, .f32⟩
  | 29 => ⟨S128x4x56x56, .f32⟩
  | 30 => ⟨S4x64x56x56, .f32⟩
  | 31 => ⟨S128x4x56x56, .f32⟩
  | 32 => ⟨S128x4x56x56, .f32⟩
  | 33 => ⟨S4x128x56x56, .f32⟩
  | 34 => ⟨S1x128x1x1, .f32⟩
  | 35 => ⟨S4x128x56x56, .f32⟩
  | 36 => ⟨S4x128x56x56, .f32⟩
  | 37 => ⟨S_, .f32⟩
  | 38 => ⟨S4x128x56x56, .f32⟩
  | 39 => ⟨S4x128x56x56, .f32⟩
  | 40 => ⟨S_, .f32⟩
  | 41 => ⟨S4x128x115x115, .f32⟩
  | 42 => ⟨S4x128x112x112, .f32⟩
  | 43 => ⟨S128x4x112x112, .f32⟩
  | 44 => ⟨S4x128x112x112, .f32⟩
  | 45 => ⟨S128x4x112x112, .f32⟩
  | 46 => ⟨S128x4x112x112, .f32⟩
  | 47 => ⟨S4x128x112x112, .f32⟩
  | 48 => ⟨S128x4x112x112, .f32⟩
  | 49 => ⟨S128x4x112x112, .f32⟩
  | 50 => ⟨S4x128x112x112, .f32⟩
  | 51 => ⟨S128x4x112x112, .f32⟩
  | 52 => ⟨S128x4x112x112, .f32⟩
  | 53 => ⟨S4x128x112x112, .f32⟩
  | 54 => ⟨S128x4x112x112, .f32⟩
  | 55 => ⟨S128x4x112x112, .f32⟩
  | 56 => ⟨S4x128x112x112, .f32⟩
  | 57 => ⟨S128x4x112x112, .f32⟩
  | 58 => ⟨S128x4x112x112, .f32⟩
  | 59 => ⟨S4x128x112x112, .f32⟩
  | 60 => ⟨S128x4x112x112, .f32⟩
  | 61 => ⟨S128x4x112x112, .f32⟩
  | 62 => ⟨S4x128x112x112, .f32⟩
  | 63 => ⟨S128x4x112x112, .f32⟩
  | 64 => ⟨S128x4x112x112, .f32⟩
  | 65 => ⟨S4x128x112x112, .f32⟩
  | 66 => ⟨S128x4x112x112, .f32⟩
  | 67 => ⟨S128x4x112x112, .f32⟩
  | 68 => ⟨S4x128x112x112, .f32⟩
  | 69 => ⟨S128x4x112x112, .f32⟩
  | 70 => ⟨S128x4x112x112, .f32⟩
  | 71 => ⟨S4x128x112x112, .f32⟩
  | 72 => ⟨S128x4x112x112, .f32⟩
  | 73 => ⟨S128x4x112x112, .f32⟩
  | 74 => ⟨S4x128x112x112, .f32⟩
  | 75 => ⟨S128x4x112x112, .f32⟩
  | 76 => ⟨S128x4x112x112, .f32⟩
  | 77 => ⟨S4x128x112x112, .f32⟩
  | 78 => ⟨S128x4x112x112, .f32⟩
  | 79 => ⟨S128x4x112x112, .f32⟩
  | 80 => ⟨S4x128x112x112, .f32⟩
  | 81 => ⟨S128x4x112x112, .f32⟩
  | 82 => ⟨S128x4x112x112, .f32⟩
  | 83 => ⟨S4x128x112x112, .f32⟩
  | 84 => ⟨S128x4x112x112, .f32⟩
  | 85 => ⟨S128x4x112x112, .f32⟩
  | 86 => ⟨S4x128x112x112, .f32⟩
  | 87 => ⟨S128x4x112x112, .f32⟩
  | 88 => ⟨S128x4x112x112, .f32⟩
  | 89 => ⟨S4x128x112x112, .f32⟩
  | 90 => ⟨S1x128x1x1, .f32⟩
  | 91 => ⟨S4x128x112x112, .f32⟩
  | 92 => ⟨S4x128x112x112, .f32⟩
  | 93 => ⟨S_, .f32⟩
  | 94 => ⟨S4x128x112x112, .f32⟩
  | 95 => ⟨S4x128x112x112, .f32⟩
  | 96 => ⟨S_, .f32⟩
  | 97 => ⟨S4x128x227x227, .f32⟩
  | 98 => ⟨S4x128x224x224, .f32⟩
  | 99 => ⟨S3x4x224x224, .f32⟩
  | 100 => ⟨S4x128x224x224, .f32⟩
  | 101 => ⟨S3x4x224x224, .f32⟩
  | 102 => ⟨S3x4x224x224, .f32⟩
  | 103 => ⟨S4x128x224x224, .f32⟩
  | 104 => ⟨S3x4x224x224, .f32⟩
  | 105 => ⟨S3x4x224x224, .f32⟩
  | 106 => ⟨S4x128x224x224, .f32⟩
  | 107 => ⟨S3x4x224x224, .f32⟩
  | 108 => ⟨S3x4x224x224, .f32⟩
  | 109 => ⟨S4x128x224x224, .f32⟩
  | 110 => ⟨S3x4x224x224, .f32⟩
  | 111 => ⟨S3x4x224x224, .f32⟩
  | 112 => ⟨S4x128x224x224, .f32⟩
  | 113 => ⟨S3x4x224x224, .f32⟩
  | 114 => ⟨S3x4x224x224, .f32⟩
  | 115 => ⟨S4x128x224x224, .f32⟩
  | 116 => ⟨S3x4x224x224, .f32⟩
  | 117 => ⟨S3x4x224x224, .f32⟩
  | 118 => ⟨S4x128x224x224, .f32⟩
  | 119 => ⟨S3x4x224x224, .f32⟩
  | 120 => ⟨S3x4x224x224, .f32⟩
  | 121 => ⟨S4x128x224x224, .f32⟩
  | 122 => ⟨S3x4x224x224, .f32⟩
  | 123 => ⟨S3x4x224x224, .f32⟩
  | 124 => ⟨S4x128x224x224, .f32⟩
  | 125 => ⟨S3x4x224x224, .f32⟩
  | 126 => ⟨S3x4x224x224, .f32⟩
  | 127 => ⟨S4x128x224x224, .f32⟩
  | _ => ⟨S4x64x56x56, .f32⟩

abbrev hbmTy0_2 (i : Nat) : BufTy := match i % 128 with
  | 0 => ⟨S3x4x224x224, .f32⟩
  | 1 => ⟨S3x4x224x224, .f32⟩
  | 2 => ⟨S4x128x224x224, .f32⟩
  | 3 => ⟨S3x4x224x224, .f32⟩
  | 4 => ⟨S3x4x224x224, .f32⟩
  | 5 => ⟨S4x128x224x224, .f32⟩
  | 6 => ⟨S3x4x224x224, .f32⟩
  | 7 => ⟨S3x4x224x224, .f32⟩
  | 8 => ⟨S4x128x224x224, .f32⟩
  | 9 => ⟨S3x4x224x224, .f32⟩
  | 10 => ⟨S3x4x224x224, .f32⟩
  | 11 => ⟨S4x128x224x224, .f32⟩
  | 12 => ⟨S3x4x224x224, .f32⟩
  | 13 => ⟨S3x4x224x224, .f32⟩
  | 14 => ⟨S4x128x224x224, .f32⟩
  | 15 => ⟨S3x4x224x224, .f32⟩
  | 16 => ⟨S3x4x224x224, .f32⟩
  | 17 => ⟨S4x3x224x224, .f32⟩
  | 18 => ⟨S1x3x1x1, .f32⟩
  | 19 => ⟨S4x3x224x224, .f32⟩
  | 20 => ⟨S4x3x224x224, .f32⟩
  | 21 => ⟨S4x3x224x224, .f32⟩
  | 22 => ⟨S4x3x224x224, .f32⟩
  | 23 => ⟨S_, .f32⟩
  | 24 => ⟨S4x3x224x224, .f32⟩
  | 25 => ⟨S4x3x224x224, .f32⟩
  | 26 => ⟨S_, .f32⟩
  | 27 => ⟨S4x3x224x224, .f32⟩
  | 28 => ⟨S4x3x224x224, .f32⟩
  | _ => ⟨S4x64x56x56, .f32⟩

abbrev hbmTy (i : Nat) : BufTy := match i / 128 with
  | 0 => hbmTy0_0 i
  | 1 => hbmTy0_1 i
  | 2 => hbmTy0_2 i
  | _ => ⟨S4x64x56x56, .f32⟩

abbrev bufTy : (tb : Table) → Fin (tcTables nBuf tb) → BufTy
  | .hbm, ⟨i, _⟩ => hbmTy i
  | _, _ => ⟨S4x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_cst : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_cst_0 : Ref sig .tc := ⟨.hbm, 165, rfl⟩
abbrev main_v157 : Ref sig .tc := ⟨.hbm, 166, rfl⟩
abbrev main_v158 : Ref sig .tc := ⟨.hbm, 167, rfl⟩
abbrev main_cst_1 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_cst_2 : Ref sig .tc := ⟨.hbm, 221, rfl⟩
abbrev main_v211 : Ref sig .tc := ⟨.hbm, 222, rfl⟩
abbrev main_v212 : Ref sig .tc := ⟨.hbm, 223, rfl⟩
abbrev main_cst_3 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_v253 : Ref sig .tc := ⟨.hbm, 265, rfl⟩
abbrev main_v254 : Ref sig .tc := ⟨.hbm, 266, rfl⟩
abbrev main_v255 : Ref sig .tc := ⟨.hbm, 267, rfl⟩
abbrev main_v256 : Ref sig .tc := ⟨.hbm, 268, rfl⟩
abbrev main_v257 : Ref sig .tc := ⟨.hbm, 269, rfl⟩
abbrev main_v258 : Ref sig .tc := ⟨.hbm, 270, rfl⟩
abbrev main_v259 : Ref sig .tc := ⟨.hbm, 271, rfl⟩
abbrev main_v260 : Ref sig .tc := ⟨.hbm, 272, rfl⟩
abbrev main_v261 : Ref sig .tc := ⟨.hbm, 273, rfl⟩
abbrev main_v262 : Ref sig .tc := ⟨.hbm, 274, rfl⟩
abbrev main_v263 : Ref sig .tc := ⟨.hbm, 275, rfl⟩
abbrev main_v264 : Ref sig .tc := ⟨.hbm, 276, rfl⟩
abbrev main_v265 : Ref sig .tc := ⟨.hbm, 277, rfl⟩
abbrev main_v266 : Ref sig .tc := ⟨.hbm, 278, rfl⟩
abbrev main_cst_4 : Ref sig .tc := ⟨.hbm, 279, rfl⟩
abbrev main_v267 : Ref sig .tc := ⟨.hbm, 280, rfl⟩
abbrev main_v268 : Ref sig .tc := ⟨.hbm, 281, rfl⟩
abbrev main_cst_5 : Ref sig .tc := ⟨.hbm, 282, rfl⟩
abbrev main_v269 : Ref sig .tc := ⟨.hbm, 283, rfl⟩
abbrev main_v270 : Ref sig .tc := ⟨.hbm, 284, rfl⟩

abbrev nD : Nat := 1
abbrev τ : Topo := Topo.v7x

variable {F : FTy → Type} [FloatOps F]
-- ==== Encoder.lean ====
abbrev S4x3x224x224 : Shape := ⟨4, ![4, 3, 224, 224]⟩
abbrev S128x3x4x4 : Shape := ⟨4, ![128, 3, 4, 4]⟩
abbrev S128 : Shape := ⟨1, ![128]⟩
abbrev S128x128x4x4 : Shape := ⟨4, ![128, 128, 4, 4]⟩
abbrev S128x128x3x3 : Shape := ⟨4, ![128, 128, 3, 3]⟩
abbrev S64x128x1x1 : Shape := ⟨4, ![64, 128, 1, 1]⟩
abbrev S64 : Shape := ⟨1, ![64]⟩
abbrev S4x224x224x3 : Shape := ⟨4, ![4, 224, 224, 3]⟩
abbrev S_ : Shape := ⟨0, ![]⟩
abbrev S4x226x226x3 : Shape := ⟨4, ![4, 226, 226, 3]⟩
abbrev S4x112x112x3 : Shape := ⟨4, ![4, 112, 112, 3]⟩
abbrev S4x112x112x48 : Shape := ⟨4, ![4, 112, 112, 48]⟩
abbrev S50176x48 : Shape := ⟨2, ![50176, 48]⟩
abbrev S4x4x3x128 : Shape := ⟨4, ![4, 4, 3, 128]⟩
abbrev S48x128 : Shape := ⟨2, ![48, 128]⟩
abbrev S1x128 : Shape := ⟨2, ![1, 128]⟩
abbrev S50176x128 : Shape := ⟨2, ![50176, 128]⟩
abbrev S3136x48 : Shape := ⟨2, ![3136, 48]⟩
abbrev S3136x128 : Shape := ⟨2, ![3136, 128]⟩
abbrev S4x112x112x128 : Shape := ⟨4, ![4, 112, 112, 128]⟩
abbrev S4x116x116x128 : Shape := ⟨4, ![4, 116, 116, 128]⟩
abbrev S4x57x116x128 : Shape := ⟨4, ![4, 57, 116, 128]⟩
abbrev S4x58x116x128 : Shape := ⟨4, ![4, 58, 116, 128]⟩
abbrev S4x57x57x128 : Shape := ⟨4, ![4, 57, 57, 128]⟩
abbrev S4x57x58x128 : Shape := ⟨4, ![4, 57, 58, 128]⟩
abbrev S4x57x56x128 : Shape := ⟨4, ![4, 57, 56, 128]⟩
abbrev S4x4x128x128 : Shape := ⟨4, ![4, 4, 128, 128]⟩
abbrev S16x128x128 : Shape := ⟨3, ![16, 128, 128]⟩
abbrev S4x3136x128 : Shape := ⟨3, ![4, 3136, 128]⟩
abbrev S1x57x56x128 : Shape := ⟨4, ![1, 57, 56, 128]⟩
abbrev S1x448x128 : Shape := ⟨3, ![1, 448, 128]⟩
abbrev S1x8x56x128 : Shape := ⟨4, ![1, 8, 56, 128]⟩
abbrev S8x56x128 : Shape := ⟨3, ![8, 56, 128]⟩
abbrev S448x128 : Shape := ⟨2, ![448, 128]⟩
abbrev S1x128x128 : Shape := ⟨3, ![1, 128, 128]⟩
abbrev S128x128 : Shape := ⟨2, ![128, 128]⟩
abbrev S3x3x128x128 : Shape := ⟨4, ![3, 3, 128, 128]⟩
abbrev S9x128x128 : Shape := ⟨3, ![9, 128, 128]⟩
abbrev S64x128 : Shape := ⟨2, ![64, 128]⟩
abbrev S128x64 : Shape := ⟨2, ![128, 64]⟩
abbrev S4x56x56x128 : Shape := ⟨4, ![4, 56, 56, 128]⟩
abbrev S4x58x58x128 : Shape := ⟨4, ![4, 58, 58, 128]⟩
abbrev S4x58x56x128 : Shape := ⟨4, ![4, 58, 56, 128]⟩
abbrev S1x64 : Shape := ⟨2, ![1, 64]⟩
abbrev S4x3136x64 : Shape := ⟨3, ![4, 3136, 64]⟩
abbrev S1x58x56x128 : Shape := ⟨4, ![1, 58, 56, 128]⟩
abbrev S1x448x64 : Shape := ⟨3, ![1, 448, 64]⟩
abbrev S448x64 : Shape := ⟨2, ![448, 64]⟩
abbrev S4x56x56x64 : Shape := ⟨4, ![4, 56, 56, 64]⟩
abbrev S4x64x56x56 : Shape := ⟨4, ![4, 64, 56, 56]⟩

abbrev nBuf : Space → Nat
  | .hbm => 76
  | .vmem => 38
  | .smem => 0
  | _ => 0

abbrev bufTy : (tb : Table) → Fin (tcTables nBuf tb) → BufTy
  | .hbm, ⟨0, _⟩ => ⟨S4x3x224x224, .f32⟩
  | .hbm, ⟨1, _⟩ => ⟨S128x3x4x4, .f32⟩
  | .hbm, ⟨2, _⟩ => ⟨S128, .f32⟩
  | .hbm, ⟨3, _⟩ => ⟨S128x128x4x4, .f32⟩
  | .hbm, ⟨4, _⟩ => ⟨S128, .f32⟩
  | .hbm, ⟨5, _⟩ => ⟨S128x128x3x3, .f32⟩
  | .hbm, ⟨6, _⟩ => ⟨S128, .f32⟩
  | .hbm, ⟨7, _⟩ => ⟨S64x128x1x1, .f32⟩
  | .hbm, ⟨8, _⟩ => ⟨S64, .f32⟩
  | .hbm, ⟨9, _⟩ => ⟨S4x224x224x3, .f32⟩
  | .hbm, ⟨10, _⟩ => ⟨S_, .i32⟩
  | .hbm, ⟨11, _⟩ => ⟨S_, .f32⟩
  | .hbm, ⟨12, _⟩ => ⟨S4x226x226x3, .f32⟩
  | .hbm, ⟨13, _⟩ => ⟨S4x112x112x3, .f32⟩
  | .hbm, ⟨14, _⟩ => ⟨S4x112x112x3, .f32⟩
  | .hbm, ⟨15, _⟩ => ⟨S4x112x112x3, .f32⟩
  | .hbm, ⟨16, _⟩ => ⟨S4x112x112x3, .f32⟩
  | .hbm, ⟨17, _⟩ => ⟨S4x112x112x3, .f32⟩
  | .hbm, ⟨18, _⟩ => ⟨S4x112x112x3, .f32⟩
  | .hbm, ⟨19, _⟩ => ⟨S4x112x112x3, .f32⟩
  | .hbm, ⟨20, _⟩ => ⟨S4x112x112x3, .f32⟩
  | .hbm, ⟨21, _⟩ => ⟨S4x112x112x3, .f32⟩
  | .hbm, ⟨22, _⟩ => ⟨S4x112x112x3, .f32⟩
  | .hbm, ⟨23, _⟩ => ⟨S4x112x112x3, .f32⟩
  | .hbm, ⟨24, _⟩ => ⟨S4x112x112x3, .f32⟩
  | .hbm, ⟨25, _⟩ => ⟨S4x112x112x3, .f32⟩
  | .hbm, ⟨26, _⟩ => ⟨S4x112x112x3, .f32⟩
  | .hbm, ⟨27, _⟩ => ⟨S4x112x112x3, .f32⟩
  | .hbm, ⟨28, _⟩ => ⟨S4x112x112x3, .f32⟩
  | .hbm, ⟨29, _⟩ => ⟨S4x112x112x48, .f32⟩
  | .hbm, ⟨30, _⟩ => ⟨S50176x48, .f32⟩
  | .hbm, ⟨31, _⟩ => ⟨S4x4x3x128, .f32⟩
  | .hbm, ⟨32, _⟩ => ⟨S48x128, .f32⟩
  | .hbm, ⟨33, _⟩ => ⟨S1x128, .f32⟩
  | .hbm, ⟨34, _⟩ => ⟨S50176x128, .f32⟩
  | .hbm, ⟨35, _⟩ => ⟨S4x112x112x128, .f32⟩
  | .hbm, ⟨36, _⟩ => ⟨S_, .i32⟩
  | .hbm, ⟨37, _⟩ => ⟨S_, .f32⟩
  | .hbm, ⟨38, _⟩ => ⟨S4x116x116x128, .f32⟩
  | .hbm, ⟨39, _⟩ => ⟨S4x57x116x128, .f32⟩
  | .hbm, ⟨40, _⟩ => ⟨S4x58x116x128, .f32⟩
  | .hbm, ⟨41, _⟩ => ⟨S4x57x116x128, .f32⟩
  | .hbm, ⟨42, _⟩ => ⟨S4x57x57x128, .f32⟩
  | .hbm, ⟨43, _⟩ => ⟨S4x57x58x128, .f32⟩
  | .hbm, ⟨44, _⟩ => ⟨S4x57x57x128, .f32⟩
  | .hbm, ⟨45, _⟩ => ⟨S4x57x56x128, .f32⟩
  | .hbm, ⟨46, _⟩ => ⟨S4x57x56x128, .f32⟩
  | .hbm, ⟨47, _⟩ => ⟨S4x57x56x128, .f32⟩
  | .hbm, ⟨48, _⟩ => ⟨S4x57x56x128, .f32⟩
  | .hbm, ⟨49, _⟩ => ⟨S4x57x57x128, .f32⟩
  | .hbm, ⟨50, _⟩ => ⟨S4x57x58x128, .f32⟩
  | .hbm, ⟨51, _⟩ => ⟨S4x57x57x128, .f32⟩
  | .hbm, ⟨52, _⟩ => ⟨S4x57x56x128, .f32⟩
  | .hbm, ⟨53, _⟩ => ⟨S4x57x56x128, .f32⟩
  | .hbm, ⟨54, _⟩ => ⟨S4x57x56x128, .f32⟩
  | .hbm, ⟨55, _⟩ => ⟨S4x57x56x128, .f32⟩
  | .hbm, ⟨56, _⟩ => ⟨S4x4x128x128, .f32⟩
  | .hbm, ⟨57, _⟩ => ⟨S16x128x128, .f32⟩
  | .hbm, ⟨58, _⟩ => ⟨S1x128, .f32⟩
  | .hbm, ⟨59, _⟩ => ⟨S4x3136x128, .f32⟩
  | .hbm, ⟨60, _⟩ => ⟨S3x3x128x128, .f32⟩
  | .hbm, ⟨61, _⟩ => ⟨S9x128x128, .f32⟩
  | .hbm, ⟨62, _⟩ => ⟨S64x128, .f32⟩
  | .hbm, ⟨63, _⟩ => ⟨S128x64, .f32⟩
  | .hbm, ⟨64, _⟩ => ⟨S4x56x56x128, .f32⟩
  | .hbm, ⟨65, _⟩ => ⟨S_, .i32⟩
  | .hbm, ⟨66, _⟩ => ⟨S_, .f32⟩
  | .hbm, ⟨67, _⟩ => ⟨S4x58x58x128, .f32⟩
  | .hbm, ⟨68, _⟩ => ⟨S4x58x56x128, .f32⟩
  | .hbm, ⟨69, _⟩ => ⟨S4x58x56x128, .f32⟩
  | .hbm, ⟨70, _⟩ => ⟨S4x58x56x128, .f32⟩
  | .hbm, ⟨71, _⟩ => ⟨S1x128, .f32⟩
  | .hbm, ⟨72, _⟩ => ⟨S1x64, .f32⟩
  | .hbm, ⟨73, _⟩ => ⟨S4x3136x64, .f32⟩
  | .hbm, ⟨74, _⟩ => ⟨S4x56x56x64, .f32⟩
  | .hbm, ⟨75, _⟩ => ⟨S4x64x56x56, .f32⟩
  | .local _ .vmem, ⟨0, _⟩ => ⟨S3136x48, .f32⟩
  | .local _ .vmem, ⟨1, _⟩ => ⟨S3136x48, .f32⟩
  | .local _ .vmem, ⟨2, _⟩ => ⟨S48x128, .f32⟩
  | .local _ .vmem, ⟨3, _⟩ => ⟨S1x128, .f32⟩
  | .local _ .vmem, ⟨4, _⟩ => ⟨S3136x128, .f32⟩
  | .local _ .vmem, ⟨5, _⟩ => ⟨S3136x128, .f32⟩
  | .local _ .vmem, ⟨6, _⟩ => ⟨S16x128x128, .f32⟩
  | .local _ .vmem, ⟨7, _⟩ => ⟨S1x128, .f32⟩
  | .local _ .vmem, ⟨8, _⟩ => ⟨S1x57x56x128, .f32⟩
  | .local _ .vmem, ⟨9, _⟩ => ⟨S1x57x56x128, .f32⟩
  | .local _ .vmem, ⟨10, _⟩ => ⟨S1x57x56x128, .f32⟩
  | .local _ .vmem, ⟨11, _⟩ => ⟨S1x57x56x128, .f32⟩
  | .local _ .vmem, ⟨12, _⟩ => ⟨S1x57x56x128, .f32⟩
  | .local _ .vmem, ⟨13, _⟩ => ⟨S1x57x56x128, .f32⟩
  | .local _ .vmem, ⟨14, _⟩ => ⟨S1x57x56x128, .f32⟩
  | .local _ .vmem, ⟨15, _⟩ => ⟨S1x57x56x128, .f32⟩
  | .local _ .vmem, ⟨16, _⟩ => ⟨S1x57x56x128, .f32⟩
  | .local _ .vmem, ⟨17, _⟩ => ⟨S1x57x56x128, .f32⟩
  | .local _ .vmem, ⟨18, _⟩ => ⟨S1x57x56x128, .f32⟩
  | .local _ .vmem, ⟨19, _⟩ => ⟨S1x57x56x128, .f32⟩
  | .local _ .vmem, ⟨20, _⟩ => ⟨S1x57x56x128, .f32⟩
  | .local _ .vmem, ⟨21, _⟩ => ⟨S1x57x56x128, .f32⟩
  | .local _ .vmem, ⟨22, _⟩ => ⟨S1x57x56x128, .f32⟩
  | .local _ .vmem, ⟨23, _⟩ => ⟨S1x57x56x128, .f32⟩
  | .local _ .vmem, ⟨24, _⟩ => ⟨S1x448x128, .f32⟩
  | .local _ .vmem, ⟨25, _⟩ => ⟨S1x448x128, .f32⟩
  | .local _ .vmem, ⟨26, _⟩ => ⟨S9x128x128, .f32⟩
  | .local _ .vmem, ⟨27, _⟩ => ⟨S1x128, .f32⟩
  | .local _ .vmem, ⟨28, _⟩ => ⟨S128x64, .f32⟩
  | .local _ .vmem, ⟨29, _⟩ => ⟨S1x64, .f32⟩
  | .local _ .vmem, ⟨30, _⟩ => ⟨S1x58x56x128, .f32⟩
  | .local _ .vmem, ⟨31, _⟩ => ⟨S1x58x56x128, .f32⟩
  | .local _ .vmem, ⟨32, _⟩ => ⟨S1x58x56x128, .f32⟩
  | .local _ .vmem, ⟨33, _⟩ => ⟨S1x58x56x128, .f32⟩
  | .local _ .vmem, ⟨34, _⟩ => ⟨S1x58x56x128, .f32⟩
  | .local _ .vmem, ⟨35, _⟩ => ⟨S1x58x56x128, .f32⟩
  | .local _ .vmem, ⟨36, _⟩ => ⟨S1x448x64, .f32⟩
  | .local _ .vmem, ⟨37, _⟩ => ⟨S1x448x64, .f32⟩
  | _, _ => ⟨S4x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_0 : Ref sig .tc := ⟨.hbm, 36, rfl⟩
abbrev main_call1_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_1 : Ref sig .tc := ⟨.hbm, 65, rfl⟩
abbrev main_call2_v0 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc2_sem0_0 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc2_sem7_0 : DmaSem sig := 36
abbrev cc2_sem7_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3136x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3136x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 7], ![false, false]⟩

def k1_off1 (i : grid1.Coords) (c0_i32 : BitVec 32) : Fin 4 → Nat :=
  let c0 : Index := 0#32
  let c8_i32 : BitVec 32 := 8#32
  let arg1 : BitVec 32 := BitVec.ofNat 32 (i 1).val
  let v0 : BitVec 32 := Scalar.muli c8_i32 arg1
  let v1 : BitVec 32 := Scalar.addi v0 c0_i32
  let v2 : Index := Scalar.indexCast v1
  let c0_0 : Index := 0#32
  let c0_1 : Index := 0#32
  ![0, v2.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S16x128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x57x56x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x57x56x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x57x56x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x57x56x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x57x56x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x57x56x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x57x56x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x57x56x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x448x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨2, ![4, 7], ![false, false]⟩

def k2_off1 (i : grid2.Coords) (c0_i32 : BitVec 32) : Fin 4 → Nat :=
  let c0 : Index := 0#32
  let c8_i32 : BitVec 32 := 8#32
  let arg1 : BitVec 32 := BitVec.ofNat 32 (i 1).val
  let v0 : BitVec 32 := Scalar.muli c8_i32 arg1
  let v1 : BitVec 32 := Scalar.addi v0 c0_i32
  let v2 : Index := Scalar.indexCast v1
  let c0_0 : Index := 0#32
  let c0_1 : Index := 0#32
  ![0, v2.toNat, 0, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_6 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .vmem S9x128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x58x56x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x58x56x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x58x56x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x448x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== EncoderReferenceIdeal.lean ====
abbrev S4x3x224x224 : Shape := ⟨4, ![4, 3, 224, 224]⟩
abbrev S128x3x4x4 : Shape := ⟨4, ![128, 3, 4, 4]⟩
abbrev S128 : Shape := ⟨1, ![128]⟩
abbrev S128x128x4x4 : Shape := ⟨4, ![128, 128, 4, 4]⟩
abbrev S128x128x3x3 : Shape := ⟨4, ![128, 128, 3, 3]⟩
abbrev S64x128x1x1 : Shape := ⟨4, ![64, 128, 1, 1]⟩
abbrev S64 : Shape := ⟨1, ![64]⟩
abbrev S128x3x16 : Shape := ⟨3, ![128, 3, 16]⟩
abbrev S128x3x1 : Shape := ⟨3, ![128, 3, 1]⟩
abbrev S128x3 : Shape := ⟨2, ![128, 3]⟩
abbrev S128x128x16 : Shape := ⟨3, ![128, 128, 16]⟩
abbrev S128x128x1 : Shape := ⟨3, ![128, 128, 1]⟩
abbrev S128x128 : Shape := ⟨2, ![128, 128]⟩
abbrev S128x128x9 : Shape := ⟨3, ![128, 128, 9]⟩
abbrev S_ : Shape := ⟨0, ![]⟩
abbrev S4x3x226x226 : Shape := ⟨4, ![4, 3, 226, 226]⟩
abbrev S4x3x112x112 : Shape := ⟨4, ![4, 3, 112, 112]⟩
abbrev S128x4x112x112 : Shape := ⟨4, ![128, 4, 112, 112]⟩
abbrev S4x128x112x112 : Shape := ⟨4, ![4, 128, 112, 112]⟩
abbrev S1x128x1x1 : Shape := ⟨4, ![1, 128, 1, 1]⟩
abbrev S4x128x114x114 : Shape := ⟨4, ![4, 128, 114, 114]⟩
abbrev S4x128x56x56 : Shape := ⟨4, ![4, 128, 56, 56]⟩
abbrev S128x4x56x56 : Shape := ⟨4, ![128, 4, 56, 56]⟩
abbrev S4x128x58x58 : Shape := ⟨4, ![4, 128, 58, 58]⟩
abbrev S64x128x1 : Shape := ⟨3, ![64, 128, 1]⟩
abbrev S64x128 : Shape := ⟨2, ![64, 128]⟩
abbrev S64x4x56x56 : Shape := ⟨4, ![64, 4, 56, 56]⟩
abbrev S4x64x56x56 : Shape := ⟨4, ![4, 64, 56, 56]⟩
abbrev S1x64x1x1 : Shape := ⟨4, ![1, 64, 1, 1]⟩

abbrev nBuf : Space → Nat
  | .hbm => 247
  | .vmem => 0
  | .smem => 0
  | _ => 0

abbrev hbmTy0_0 (i : Nat) : BufTy := match i % 128 with
  | 0 => ⟨S4x3x224x224, .f32⟩
  | 1 => ⟨S128x3x4x4, .f32⟩
  | 2 => ⟨S128, .f32⟩
  | 3 => ⟨S128x128x4x4, .f32⟩
  | 4 => ⟨S128, .f32⟩
  | 5 => ⟨S128x128x3x3, .f32⟩
  | 6 => ⟨S128, .f32⟩
  | 7 => ⟨S64x128x1x1, .f32⟩
  | 8 => ⟨S64, .f32⟩
  | 9 => ⟨S128x3x16, .f32⟩
  | 10 => ⟨S128x3x1, .f32⟩
  | 11 => ⟨S128x3, .f32⟩
  | 12 => ⟨S128x3x1, .f32⟩
  | 13 => ⟨S128x3, .f32⟩
  | 14 => ⟨S128x3x1, .f32⟩
  | 15 => ⟨S128x3, .f32⟩
  | 16 => ⟨S128x3x1, .f32⟩
  | 17 => ⟨S128x3, .f32⟩
  | 18 => ⟨S128x3x1, .f32⟩
  | 19 => ⟨S128x3, .f32⟩
  | 20 => ⟨S128x3x1, .f32⟩
  | 21 => ⟨S128x3, .f32⟩
  | 22 => ⟨S128x3x1, .f32⟩
  | 23 => ⟨S128x3, .f32⟩
  | 24 => ⟨S128x3x1, .f32⟩
  | 25 => ⟨S128x3, .f32⟩
  | 26 => ⟨S128x3x1, .f32⟩
  | 27 => ⟨S128x3, .f32⟩
  | 28 => ⟨S128x3x1, .f32⟩
  | 29 => ⟨S128x3, .f32⟩
  | 30 => ⟨S128x3x1, .f32⟩
  | 31 => ⟨S128x3, .f32⟩
  | 32 => ⟨S128x3x1, .f32⟩
  | 33 => ⟨S128x3, .f32⟩
  | 34 => ⟨S128x3x1, .f32⟩
  | 35 => ⟨S128x3, .f32⟩
  | 36 => ⟨S128x3x1, .f32⟩
  | 37 => ⟨S128x3, .f32⟩
  | 38 => ⟨S128x3x1, .f32⟩
  | 39 => ⟨S128x3, .f32⟩
  | 40 => ⟨S128x3x1, .f32⟩
  | 41 => ⟨S128x3, .f32⟩
  | 42 => ⟨S128x128x16, .f32⟩
  | 43 => ⟨S128x128x1, .f32⟩
  | 44 => ⟨S128x128, .f32⟩
  | 45 => ⟨S128x128x1, .f32⟩
  | 46 => ⟨S128x128, .f32⟩
  | 47 => ⟨S128x128x1, .f32⟩
  | 48 => ⟨S128x128, .f32⟩
  | 49 => ⟨S128x128x1, .f32⟩
  | 50 => ⟨S128x128, .f32⟩
  | 51 => ⟨S128x128x1, .f32⟩
  | 52 => ⟨S128x128, .f32⟩
  | 53 => ⟨S128x128x1, .f32⟩
  | 54 => ⟨S128x128, .f32⟩
  | 55 => ⟨S128x128x1, .f32⟩
  | 56 => ⟨S128x128, .f32⟩
  | 57 => ⟨S128x128x1, .f32⟩
  | 58 => ⟨S128x128, .f32⟩
  | 59 => ⟨S128x128x1, .f32⟩
  | 60 => ⟨S128x128, .f32⟩
  | 61 => ⟨S128x128x1, .f32⟩
  | 62 => ⟨S128x128, .f32⟩
  | 63 => ⟨S128x128x1, .f32⟩
  | 64 => ⟨S128x128, .f32⟩
  | 65 => ⟨S128x128x1, .f32⟩
  | 66 => ⟨S128x128, .f32⟩
  | 67 => ⟨S128x128x1, .f32⟩
  | 68 => ⟨S128x128, .f32⟩
  | 69 => ⟨S128x128x1, .f32⟩
  | 70 => ⟨S128x128, .f32⟩
  | 71 => ⟨S128x128x1, .f32⟩
  | 72 => ⟨S128x128, .f32⟩
  | 73 => ⟨S128x128x1, .f32⟩
  | 74 => ⟨S128x128, .f32⟩
  | 75 => ⟨S128x128x9, .f32⟩
  | 76 => ⟨S128x128x1, .f32⟩
  | 77 => ⟨S128x128, .f32⟩
  | 78 => ⟨S128x128x1, .f32⟩
  | 79 => ⟨S128x128, .f32⟩
  | 80 => ⟨S128x128x1, .f32⟩
  | 81 => ⟨S128x128, .f32⟩
  | 82 => ⟨S128x128x1, .f32⟩
  | 83 => ⟨S128x128, .f32⟩
  | 84 => ⟨S128x128x1, .f32⟩
  | 85 => ⟨S128x128, .f32⟩
  | 86 => ⟨S128x128x1, .f32⟩
  | 87 => ⟨S128x128, .f32⟩
  | 88 => ⟨S128x128x1, .f32⟩
  | 89 => ⟨S128x128, .f32⟩
  | 90 => ⟨S128x128x1, .f32⟩
  | 91 => ⟨S128x128, .f32⟩
  | 92 => ⟨S128x128x1, .f32⟩
  | 93 => ⟨S128x128, .f32⟩
  | 94 => ⟨S_, .f32⟩
  | 95 => ⟨S4x3x226x226, .f32⟩
  | 96 => ⟨S4x3x112x112, .f32⟩
  | 97 => ⟨S128x4x112x112, .f32⟩
  | 98 => ⟨S4x3x112x112, .f32⟩
  | 99 => ⟨S128x4x112x112, .f32⟩
  | 100 => ⟨S128x4x112x112, .f32⟩
  | 101 => ⟨S4x3x112x112, .f32⟩
  | 102 => ⟨S128x4x112x112, .f32⟩
  | 103 => ⟨S128x4x112x112, .f32⟩
  | 104 => ⟨S4x3x112x112, .f32⟩
  | 105 => ⟨S128x4x112x112, .f32⟩
  | 106 => ⟨S128x4x112x112, .f32⟩
  | 107 => ⟨S4x3x112x112, .f32⟩
  | 108 => ⟨S128x4x112x112, .f32⟩
  | 109 => ⟨S128x4x112x112, .f32⟩
  | 110 => ⟨S4x3x112x112, .f32⟩
  | 111 => ⟨S128x4x112x112, .f32⟩
  | 112 => ⟨S128x4x112x112, .f32⟩
  | 113 => ⟨S4x3x112x112, .f32⟩
  | 114 => ⟨S128x4x112x112, .f32⟩
  | 115 => ⟨S128x4x112x112, .f32⟩
  | 116 => ⟨S4x3x112x112, .f32⟩
  | 117 => ⟨S128x4x112x112, .f32⟩
  | 118 => ⟨S128x4x112x112, .f32⟩
  | 119 => ⟨S4x3x112x112, .f32⟩
  | 120 => ⟨S128x4x112x112, .f32⟩
  | 121 => ⟨S128x4x112x112, .f32⟩
  | 122 => ⟨S4x3x112x112, .f32⟩
  | 123 => ⟨S128x4x112x112, .f32⟩
  | 124 => ⟨S128x4x112x112, .f32⟩
  | 125 => ⟨S4x3x112x112, .f32⟩
  | 126 => ⟨S128x4x112x112, .f32⟩
  | 127 => ⟨S128x4x112x112, .f32⟩
  | _ => ⟨S4x3x224x224, .f32⟩

abbrev hbmTy0_1 (i : Nat) : BufTy := match i % 128 with
  | 0 => ⟨S4x3x112x112, .f32⟩
  | 1 => ⟨S128x4x112x112, .f32⟩
  | 2 => ⟨S128x4x112x112, .f32⟩
  | 3 => ⟨S4x3x112x112, .f32⟩
  | 4 => ⟨S128x4x112x112, .f32⟩
  | 5 => ⟨S128x4x112x112, .f32⟩
  | 6 => ⟨S4x3x112x112, .f32⟩
  | 7 => ⟨S128x4x112x112, .f32⟩
  | 8 => ⟨S128x4x112x112, .f32⟩
  | 9 => ⟨S4x3x112x112, .f32⟩
  | 10 => ⟨S128x4x112x112, .f32⟩
  | 11 => ⟨S128x4x112x112, .f32⟩
  | 12 => ⟨S4x3x112x112, .f32⟩
  | 13 => ⟨S128x4x112x112, .f32⟩
  | 14 => ⟨S128x4x112x112, .f32⟩
  | 15 => ⟨S4x128x112x112, .f32⟩
  | 16 => ⟨S1x128x1x1, .f32⟩
  | 17 => ⟨S4x128x112x112, .f32⟩
  | 18 => ⟨S4x128x112x112, .f32⟩
  | 19 => ⟨S_, .f32⟩
  | 20 => ⟨S4x128x112x112, .f32⟩
  | 21 => ⟨S4x128x112x112, .f32⟩
  | 22 => ⟨S_, .f32⟩
  | 23 => ⟨S4x128x114x114, .f32⟩
  | 24 => ⟨S4x128x56x56, .f32⟩
  | 25 => ⟨S128x4x56x56, .f32⟩
  | 26 => ⟨S4x128x56x56, .f32⟩
  | 27 => ⟨S128x4x56x56, .f32⟩
  | 28 => ⟨S128x4x56x56, .f32⟩
  | 29 => ⟨S4x128x56x56, .f32⟩
  | 30 => ⟨S128x4x56x56, .f32⟩
  | 31 => ⟨S128x4x56x56, .f32⟩
  | 32 => ⟨S4x128x56x56, .f32⟩
  | 33 => ⟨S128x4x56x56, .f32⟩
  | 34 => ⟨S128x4x56x56, .f32⟩
  | 35 => ⟨S4x128x56x56, .f32⟩
  | 36 => ⟨S128x4x56x56, .f32⟩
  | 37 => ⟨S128x4x56x56, .f32⟩
  | 38 => ⟨S4x128x56x56, .f32⟩
  | 39 => ⟨S128x4x56x56, .f32⟩
  | 40 => ⟨S128x4x56x56, .f32⟩
  | 41 => ⟨S4x128x56x56, .f32⟩
  | 42 => ⟨S128x4x56x56, .f32⟩
  | 43 => ⟨S128x4x56x56, .f32⟩
  | 44 => ⟨S4x128x56x56, .f32⟩
  | 45 => ⟨S128x4x56x56, .f32⟩
  | 46 => ⟨S128x4x56x56, .f32⟩
  | 47 => ⟨S4x128x56x56, .f32⟩
  | 48 => ⟨S128x4x56x56, .f32⟩
  | 49 => ⟨S128x4x56x56, .f32⟩
  | 50 => ⟨S4x128x56x56, .f32⟩
  | 51 => ⟨S128x4x56x56, .f32⟩
  | 52 => ⟨S128x4x56x56, .f32⟩
  | 53 => ⟨S4x128x56x56, .f32⟩
  | 54 => ⟨S128x4x56x56, .f32⟩
  | 55 => ⟨S128x4x56x56, .f32⟩
  | 56 => ⟨S4x128x56x56, .f32⟩
  | 57 => ⟨S128x4x56x56, .f32⟩
  | 58 => ⟨S128x4x56x56, .f32⟩
  | 59 => ⟨S4x128x56x56, .f32⟩
  | 60 => ⟨S128x4x56x56, .f32⟩
  | 61 => ⟨S128x4x56x56, .f32⟩
  | 62 => ⟨S4x128x56x56, .f32⟩
  | 63 => ⟨S128x4x56x56, .f32⟩
  | 64 => ⟨S128x4x56x56, .f32⟩
  | 65 => ⟨S4x128x56x56, .f32⟩
  | 66 => ⟨S128x4x56x56, .f32⟩
  | 67 => ⟨S128x4x56x56, .f32⟩
  | 68 => ⟨S4x128x56x56, .f32⟩
  | 69 => ⟨S128x4x56x56, .f32⟩
  | 70 => ⟨S128x4x56x56, .f32⟩
  | 71 => ⟨S4x128x56x56, .f32⟩
  | 72 => ⟨S1x128x1x1, .f32⟩
  | 73 => ⟨S4x128x56x56, .f32⟩
  | 74 => ⟨S4x128x56x56, .f32⟩
  | 75 => ⟨S_, .f32⟩
  | 76 => ⟨S4x128x56x56, .f32⟩
  | 77 => ⟨S4x128x56x56, .f32⟩
  | 78 => ⟨S_, .f32⟩
  | 79 => ⟨S4x128x58x58, .f32⟩
  | 80 => ⟨S4x128x56x56, .f32⟩
  | 81 => ⟨S128x4x56x56, .f32⟩
  | 82 => ⟨S4x128x56x56, .f32⟩
  | 83 => ⟨S128x4x56x56, .f32⟩
  | 84 => ⟨S128x4x56x56, .f32⟩
  | 85 => ⟨S4x128x56x56, .f32⟩
  | 86 => ⟨S128x4x56x56, .f32⟩
  | 87 => ⟨S128x4x56x56, .f32⟩
  | 88 => ⟨S4x128x56x56, .f32⟩
  | 89 => ⟨S128x4x56x56, .f32⟩
  | 90 => ⟨S128x4x56x56, .f32⟩
  | 91 => ⟨S4x128x56x56, .f32⟩
  | 92 => ⟨S128x4x56x56, .f32⟩
  | 93 => ⟨S128x4x56x56, .f32⟩
  | 94 => ⟨S4x128x56x56, .f32⟩
  | 95 => ⟨S128x4x56x56, .f32⟩
  | 96 => ⟨S128x4x56x56, .f32⟩
  | 97 => ⟨S4x128x56x56, .f32⟩
  | 98 => ⟨S128x4x56x56, .f32⟩
  | 99 => ⟨S128x4x56x56, .f32⟩
  | 100 => ⟨S4x128x56x56, .f32⟩
  | 101 => ⟨S128x4x56x56, .f32⟩
  | 102 => ⟨S128x4x56x56, .f32⟩
  | 103 => ⟨S4x128x56x56, .f32⟩
  | 104 => ⟨S128x4x56x56, .f32⟩
  | 105 => ⟨S128x4x56x56, .f32⟩
  | 106 => ⟨S4x128x56x56, .f32⟩
  | 107 => ⟨S1x128x1x1, .f32⟩
  | 108 => ⟨S4x128x56x56, .f32⟩
  | 109 => ⟨S4x128x56x56, .f32⟩
  | 110 => ⟨S64x128x1, .f32⟩
  | 111 => ⟨S64x128, .f32⟩
  | 112 => ⟨S_, .f32⟩
  | 113 => ⟨S4x128x56x56, .f32⟩
  | 114 => ⟨S64x4x56x56, .f32⟩
  | 115 => ⟨S4x64x56x56, .f32⟩
  | 116 => ⟨S1x64x1x1, .f32⟩
  | 117 => ⟨S4x64x56x56, .f32⟩
  | 118 => ⟨S4x64x56x56, .f32⟩
  | _ => ⟨S4x3x224x224, .f32⟩

abbrev hbmTy (i : Nat) : BufTy := match i / 128 with
  | 0 => hbmTy0_0 i
  | 1 => hbmTy0_1 i
  | _ => ⟨S4x3x224x224, .f32⟩

abbrev bufTy : (tb : Table) → Fin (tcTables nBuf tb) → BufTy
  | .hbm, ⟨i, _⟩ => hbmTy i
  | _, _ => ⟨S4x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_cst : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_cst_0 : Ref sig .tc := ⟨.hbm, 147, rfl⟩
abbrev main_v137 : Ref sig .tc := ⟨.hbm, 148, rfl⟩
abbrev main_v138 : Ref sig .tc := ⟨.hbm, 149, rfl⟩
abbrev main_cst_1 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_cst_2 : Ref sig .tc := ⟨.hbm, 203, rfl⟩
abbrev main_v191 : Ref sig .tc := ⟨.hbm, 204, rfl⟩
abbrev main_v192 : Ref sig .tc := ⟨.hbm, 205, rfl⟩
abbrev main_cst_3 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_cst_4 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩

abbrev nD : Nat := 1
abbrev τ : Topo := Topo.v7x

variable {F : FTy → Type} [FloatOps F]
-- ==== Proof.DecRun.lean ====
/- The decoder's run with its result: the result array is left as the last boundary's contents say, and the arguments as
   launched. -/
module

public import proofs.«01_k».proof.Proof.Gen.DecoderIdeal.Frame

@[expose] public section

set_option maxRecDepth 16384

noncomputable section

namespace Cert.DecoderIdeal.Value

open Idealize.ShloMosaic Idealize.ShloMosaic.TcCoe Idealize.ShloMosaic.Tactic
open Cert.DecoderIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at the fold's last contents and the arguments unchanged. -/
theorem run : θ_run defs (onTc (τ := τ) (main (F := F))) ⟨m, fun _ => 0, ρ⟩ (fun r => ∀ c : Dev nD,
      r.2.mem ((c.tc : Thread nD τ).loc main_v158) = W13 m ρ c main_v158
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => (fun c =>
      ⟨h c _ (mem_uc main_v158 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩))

end Cert.DecoderIdeal.Value

end
-- ==== Proof.Dec0.lean ====
/- The decoder's first call (a 3 × 3 convolution over three shifted views of the padded image): the array it leaves,
   element by element, in terms of the arrays it is called with. -/
module

public import proofs.«01_k».proof.Proof.Gen.DecoderIdeal.Frame
public import Idealize.ShloMosaic.Lib.Pipeline.ValueKit
public import Idealize.ShloMosaic.Lib.Pointwise

@[expose] public section

set_option maxRecDepth 16384

noncomputable section

namespace Cert.DecoderIdeal.R0

open Idealize.ShloMosaic Idealize.ShloMosaic.TcCoe Idealize.SL.Sem
open Idealize.ShloMosaic.Pipeline (Dat)
open Cert.DecoderIdeal Cert.DecoderIdeal.Gen

variable (V : (c : Dev nD) → (b : Ref sig .tc) → b.ty.Contents (Elt Ideal))

/-- The product of one tap: row `s`, column `u`. -/
def tap (x : Fin 3 → FVec Ideal S4x58x56x64 .f32) (W : FVec Ideal S9x64x128 .f32) (s u : Fin 3)
    (n : Fin 4) (p : Fin 3136) (o : Fin 128) : EReal :=
  ∑ k : Fin 64, x u (ix4 n ⟨p.val / 56 + s.val, by omega⟩ ⟨p.val % 56, by omega⟩ k)
    * W (ix3 ⟨3 * s.val + u.val, by omega⟩ k o)

/-- What the call computes. -/
def out (W : FVec Ideal S9x64x128 .f32) (b : FVec Ideal S1x128 .f32) (x : Fin 3 → FVec Ideal S4x58x56x64 .f32)
    (n : Fin 4) (p : Fin 3136) (o : Fin 128) : EReal :=
  max (tap x W 0 0 n p o + tap x W 0 1 n p o + tap x W 0 2 n p o
    + tap x W 1 0 n p o + tap x W 1 1 n p o + tap x W 1 2 n p o
    + tap x W 2 0 n p o + tap x W 2 1 n p o + tap x W 2 2 n p o + b (ix2 0 o)) 0

/-- The call's array as a whole. -/
def REF (W : FVec Ideal S9x64x128 .f32) (b : FVec Ideal S1x128 .f32) (x : Fin 3 → FVec Ideal S4x58x56x64 .f32) :
    FVec Ideal S4x3136x128 .f32 := fun j => out W b x (j 0) (j 1) (j 2)

theorem idx : ∀ t : Fin cfg0.N, win0_0.index t = ![0, 0, 0] ∧ win0_1.index t = ![0, 0]
    ∧ win0_4.index t = ![t.val / 7, 0, 0, 0] ∧ win0_5.index t = ![t.val / 7, 0, 0, 0] ∧ win0_6.index t = ![t.val / 7, 0, 0, 0]
    ∧ win0_7.index t = ![t.val / 7, t.val % 7, 0] ∧ (grid0.coords t 1).val = t.val % 7 ∧ t.val / 7 < 4 :=
  (by decide +kernel : ∀ t : Fin grid0.N, _)

theorem lt (t : Fin cfg0.N) : t.val / 7 < 4 := (idx t).2.2.2.2.2.2.2

theorem blk0 (c : Dev nD) (t : Fin cfg0.N) (u : Fin 9) (k : Fin 64) (o : Fin 128) :
    (iblk0 V c 0 t : FVec Ideal S9x64x128 .f32) (ix3 u k o) = V c main_v3 (ix3 u k o) := by
  blk_point [iblk0, idx t]

theorem blk1 (c : Dev nD) (t : Fin cfg0.N) (z : Fin 1) (o : Fin 128) :
    (iblk0 V c 1 t : FVec Ideal S1x128 .f32) (ix2 z o) = V c main_v10 (ix2 z o) := by
  blk_point [iblk0, idx t]

theorem blk4 (c : Dev nD) (t : Fin cfg0.N) (z : Fin 1) (r : Fin 58) (s : Fin 56) (k : Fin 64) :
    (iblk0 V c 4 t : FVec Ideal S1x58x56x64 .f32) (ix4 z r s k) = V c main_v5 (ix4 ⟨t.val / 7, lt t⟩ r s k) := by
  blk_point [iblk0, idx t]

theorem blk5 (c : Dev nD) (t : Fin cfg0.N) (z : Fin 1) (r : Fin 58) (s : Fin 56) (k : Fin 64) :
    (iblk0 V c 5 t : FVec Ideal S1x58x56x64 .f32) (ix4 z r s k) = V c main_v6 (ix4 ⟨t.val / 7, lt t⟩ r s k) := by
  blk_point [iblk0, idx t]

theorem blk6 (c : Dev nD) (t : Fin cfg0.N) (z : Fin 1) (r : Fin 58) (s : Fin 56) (k : Fin 64) :
    (iblk0 V c 6 t : FVec Ideal S1x58x56x64 .f32) (ix4 z r s k) = V c main_v7 (ix4 ⟨t.val / 7, lt t⟩ r s k) := by
  blk_point [iblk0, idx t]

theorem emb7 (t : Fin cfg0.N) (z : Fin 1) (p : Fin 448) (o : Fin 128) :
    (((cfg0.win 7).blk t).view.emb (ix3 z p o) : S4x3136x128.Idx)
      = ix3 ⟨t.val / 7, lt t⟩ ⟨448 * (t.val % 7) + p, by omega⟩ o := by
  blk_ext [idx t]

theorem off (t : Fin cfg0.N) : k0_off1 (grid0.coords t) 0#32 = ![0, 8 * (t.val % 7), 0, 0]
    ∧ k0_off1 (grid0.coords t) 1#32 = ![0, 8 * (t.val % 7) + 1, 0, 0]
    ∧ k0_off1 (grid0.coords t) 2#32 = ![0, 8 * (t.val % 7) + 2, 0, 0] := by
  have h := Gen.k0_off1_eq (grid0.coords t)
  rw [(idx t).2.2.2.2.2.2.1] at h
  exact ⟨h 0, h 1, h 2⟩

/-- The three views as one family. -/
def views (c : Dev nD) : Fin 3 → FVec Ideal S4x58x56x64 .f32
  | 0 => V c main_v5
  | 1 => V c main_v6
  | 2 => V c main_v7

set_option maxHeartbeats 2000000 in
/-- The region leaves the layer's output in its result array. -/
theorem final (c : Dev nD) : (dat0 V c).arrAt 7 cfg0.N
    = REF (V c main_v3) (V c main_v10) (views V c) := by
  refine (dat0 V c).arrAt_eq_of_covers 7 _ (by decide +kernel) fun t _ y => ?_
  blk_simp
  rw [after0_7]
  unfold outsAt0
  frame_out
  have hy : ∃ (z : Fin 1) (p : Fin 448) (o : Fin 128), y = (ix3 z p o : S1x448x128.Idx) :=
    ⟨y 0, y 1, y 2, eq_ix3 (n0 := 1) (n1 := 448) (n2 := 128) y⟩
  obtain ⟨z, p, o, rfl⟩ := hy
  refine Eq.trans ?_ (congrArg (REF _ _ _) (emb7 t z p o)).symm
  pointwise [k0_pay1, k0_pay2, k0_pay3, k0_pay4, k0_pay5, REF, out, tap, views]
  obtain ⟨o0, o1, o2⟩ := off t
  simp only [o0, o1, o2, Matrix.cons_val, blk0, blk1, blk4, blk5, blk6, zero_add]
  have h1 : (448 * (t.val % 7) + p.val) / 56 = 8 * (t.val % 7) + p.val / 56 := by omega
  have h2 : (448 * (t.val % 7) + p.val) % 56 = p.val % 56 := by omega
  simp only [h1, h2, Nat.add_right_comm (8 * (t.val % 7))]

end Cert.DecoderIdeal.R0

end
-- ==== Proof.Dec1.lean ====
/- The decoder's second call (a transposed 4 × 4 convolution, one column block of the result for each parity of the output pixel): the array it leaves,
   element by element, in terms of the arrays it is called with. -/
module

public import proofs.«01_k».proof.Proof.Gen.DecoderIdeal.Frame
public import Idealize.ShloMosaic.Lib.Pipeline.ValueKit
public import Idealize.ShloMosaic.Lib.Pointwise

@[expose] public section

set_option maxRecDepth 16384

noncomputable section

namespace Cert.DecoderIdeal.R1

open Idealize.ShloMosaic Idealize.ShloMosaic.TcCoe Idealize.SL.Sem
open Idealize.ShloMosaic.Pipeline (Dat)
open Cert.DecoderIdeal Cert.DecoderIdeal.Gen

variable (V : (c : Dev nD) → (b : Ref sig .tc) → b.ty.Contents (Elt Ideal))

/-- One of the four taps of the column block `q`: the rows and columns it meets are counted by `a` and `b`. -/
def tap (x : Fin 3 → FVec Ideal S4x58x56x128 .f32) (W : FVec Ideal S16x128x128 .f32) (q : Fin 4) (a b : Fin 2)
    (n : Fin 4) (p : Fin 3136) (o : Fin 128) : EReal :=
  ∑ k : Fin 128, x ⟨q.val % 2 + 1 - b.val, by omega⟩
      (ix4 n ⟨p.val / 56 + (q.val / 2 + 1 - a.val), by omega⟩ ⟨p.val % 56, by omega⟩ k)
    * W (ix3 ⟨4 * q.val + 2 * a.val + b.val, by omega⟩ k o)

/-- What the call computes in the column block `q`. -/
def out (W : FVec Ideal S16x128x128 .f32) (b : FVec Ideal S1x128 .f32) (x : Fin 3 → FVec Ideal S4x58x56x128 .f32)
    (q : Fin 4) (n : Fin 4) (p : Fin 3136) (o : Fin 128) : EReal :=
  max (tap x W q 0 0 n p o + tap x W q 0 1 n p o + tap x W q 1 0 n p o + tap x W q 1 1 n p o + b (ix2 0 o)) 0

/-- The call's array as a whole. -/
def REF (W : FVec Ideal S16x128x128 .f32) (b : FVec Ideal S1x128 .f32) (x : Fin 3 → FVec Ideal S4x58x56x128 .f32) :
    FVec Ideal S4x3136x512 .f32 :=
  fun j => out W b x ⟨(j 2).val / 128, by have : (j 2).val < 512 := (j 2).isLt; omega⟩ (j 0) (j 1) ⟨(j 2).val % 128, by omega⟩

theorem REF_at (W : FVec Ideal S16x128x128 .f32) (b : FVec Ideal S1x128 .f32) (x : Fin 3 → FVec Ideal S4x58x56x128 .f32)
    (n : Fin 4) (p : Fin 3136) (o : Fin 512) (q : Fin 4) (o' : Fin 128) (h : o.val = 128 * q.val + o'.val) :
    REF W b x (ix3 n p o) = out W b x q n p o' := by
  show out W b x ⟨o.val / 128, _⟩ n p ⟨o.val % 128, _⟩ = _
  congr 1 <;> exact Fin.ext (by dsimp only; omega)

theorem idx : ∀ t : Fin cfg1.N, win1_0.index t = ![0, 0, 0] ∧ win1_1.index t = ![0, 0]
    ∧ win1_2.index t = ![t.val / 7, 0, 0, 0] ∧ win1_3.index t = ![t.val / 7, 0, 0, 0] ∧ win1_4.index t = ![t.val / 7, 0, 0, 0]
    ∧ win1_5.index t = ![t.val / 7, t.val % 7, 0] ∧ (grid1.coords t 1).val = t.val % 7 ∧ t.val / 7 < 4 :=
  (by decide +kernel : ∀ t : Fin grid1.N, _)

theorem lt (t : Fin cfg1.N) : t.val / 7 < 4 := (idx t).2.2.2.2.2.2.2

theorem blk0 (c : Dev nD) (t : Fin cfg1.N) (u : Fin 16) (k o : Fin 128) :
    (iblk1 V c 0 t : FVec Ideal S16x128x128 .f32) (ix3 u k o) = V c main_v66 (ix3 u k o) := by
  blk_point [iblk1, idx t]

theorem blk1 (c : Dev nD) (t : Fin cfg1.N) (z : Fin 1) (o : Fin 128) :
    (iblk1 V c 1 t : FVec Ideal S1x128 .f32) (ix2 z o) = V c main_v67 (ix2 z o) := by
  blk_point [iblk1, idx t]

theorem blk2 (c : Dev nD) (t : Fin cfg1.N) (z : Fin 1) (r : Fin 58) (s : Fin 56) (k : Fin 128) :
    (iblk1 V c 2 t : FVec Ideal S1x58x56x128 .f32) (ix4 z r s k) = V c main_v15 (ix4 ⟨t.val / 7, lt t⟩ r s k) := by
  blk_point [iblk1, idx t]

theorem blk3 (c : Dev nD) (t : Fin cfg1.N) (z : Fin 1) (r : Fin 58) (s : Fin 56) (k : Fin 128) :
    (iblk1 V c 3 t : FVec Ideal S1x58x56x128 .f32) (ix4 z r s k) = V c main_v16 (ix4 ⟨t.val / 7, lt t⟩ r s k) := by
  blk_point [iblk1, idx t]

theorem blk4 (c : Dev nD) (t : Fin cfg1.N) (z : Fin 1) (r : Fin 58) (s : Fin 56) (k : Fin 128) :
    (iblk1 V c 4 t : FVec Ideal S1x58x56x128 .f32) (ix4 z r s k) = V c main_v17 (ix4 ⟨t.val / 7, lt t⟩ r s k) := by
  blk_point [iblk1, idx t]

theorem emb5 (t : Fin cfg1.N) (z : Fin 1) (p : Fin 448) (o : Fin 512) :
    (((cfg1.win 5).blk t).view.emb (ix3 z p o) : S4x3136x512.Idx)
      = ix3 ⟨t.val / 7, lt t⟩ ⟨448 * (t.val % 7) + p, by omega⟩ o := by
  blk_ext [idx t]

theorem off (t : Fin cfg1.N) : k1_off1 (grid1.coords t) 0#32 = ![0, 8 * (t.val % 7), 0, 0]
    ∧ k1_off1 (grid1.coords t) 1#32 = ![0, 8 * (t.val % 7) + 1, 0, 0]
    ∧ k1_off1 (grid1.coords t) 2#32 = ![0, 8 * (t.val % 7) + 2, 0, 0] := by
  have h := Gen.k1_off1_eq (grid1.coords t)
  rw [(idx t).2.2.2.2.2.2.1] at h
  exact ⟨h 0, h 1, h 2⟩

/-- The three views as one family. -/
def views (c : Dev nD) : Fin 3 → FVec Ideal S4x58x56x128 .f32
  | 0 => V c main_v15
  | 1 => V c main_v16
  | 2 => V c main_v17

set_option maxHeartbeats 2000000 in
/-- The region leaves the layer's output in its result array. -/
theorem final (c : Dev nD) : (dat1 V c).arrAt 5 cfg1.N = REF (V c main_v66) (V c main_v67) (views V c) := by
  refine (dat1 V c).arrAt_eq_of_covers 5 _ (by decide +kernel) fun t _ y => ?_
  blk_simp
  rw [after1_5]
  unfold outsAt1
  frame_out
  have hy : ∃ (z : Fin 1) (p : Fin 448) (o : Fin 512), y = (ix3 z p o : S1x448x512.Idx) :=
    ⟨y 0, y 1, y 2, eq_ix3 (n0 := 1) (n1 := 448) (n2 := 512) y⟩
  obtain ⟨z, p, o, rfl⟩ := hy
  refine Eq.trans ?_ (congrArg (REF _ _ _) (emb5 t z p o)).symm
  obtain ⟨o0, o1, o2⟩ := off t
  canon_tiles x h
  all_goals
    have hx : ∃ (z' : Fin 1) (p' : Fin 448) (o' : Fin 128), x = (ix3 z' p' o' : S1x448x128.Idx) :=
      ⟨x 0, x 1, x 2, eq_ix3 (n0 := 1) (n1 := 448) (n2 := 128) x⟩
    obtain ⟨z', p', o', rfl⟩ := hx
    obtain rfl : p = p' := Fin.ext h1
    change o.val = _ at h2
  case' piece0 => refine Eq.trans ?_ (REF_at _ _ _ _ _ _ 3 o' h2).symm
  case' piece1 => refine Eq.trans ?_ (REF_at _ _ _ _ _ _ 2 o' h2).symm
  case' piece2 => refine Eq.trans ?_ (REF_at _ _ _ _ _ _ 1 o' h2).symm
  case' piece3 => refine Eq.trans ?_ (REF_at _ _ _ _ _ _ 0 o' (h2.trans (by simp))).symm
  all_goals
    clear h0 h1 h2
    pointwise [k1_pay1, k1_pay2, k1_pay3, k1_pay4, k1_pay5, k1_pay6, k1_pay7, k1_pay8, k1_pay9, k1_pay10, out, tap, views]
    simp only [o0, o1, o2, Matrix.cons_val, blk0, blk1, blk2, blk3, blk4, zero_add]
    have h1 : (448 * (t.val % 7) + p.val) / 56 = 8 * (t.val % 7) + p.val / 56 := by omega
    have h2 : (448 * (t.val % 7) + p.val) % 56 = p.val % 56 := by omega
    simp only [h1, h2, Nat.add_right_comm (8 * (t.val % 7))]

end Cert.DecoderIdeal.R1

end
-- ==== Proof.Dec2.lean ====
/- The decoder's third call (nine blocks over the padded image, twelve columns, the logistic function): the array it leaves,
   element by element, in terms of the arrays it is called with. -/
module

public import proofs.«01_k».proof.Proof.Gen.DecoderIdeal.Frame
public import Idealize.ShloMosaic.Lib.Pipeline.ValueKit
public import Idealize.ShloMosaic.Lib.Pointwise

@[expose] public section

set_option maxRecDepth 16384

noncomputable section

namespace Cert.DecoderIdeal.R2

open Idealize.ShloMosaic Idealize.ShloMosaic.TcCoe Idealize.SL.Sem
open Idealize.ShloMosaic.Pipeline (Dat)
open Cert.DecoderIdeal Cert.DecoderIdeal.Gen

variable (V : (c : Dev nD) → (b : Ref sig .tc) → b.ty.Contents (Elt Ideal))

/-- The product of one block: row `s`, column `u`. -/
def tap (x : Fin 3 → FVec Ideal S4x114x112x128 .f32) (W : FVec Ideal S9x128x12 .f32) (s u : Fin 3)
    (n : Fin 4) (p : Fin 12544) (o : Fin 12) : EReal :=
  ∑ k : Fin 128, x u (ix4 n ⟨p.val / 112 + s.val, by omega⟩ ⟨p.val % 112, by omega⟩ k)
    * W (ix3 ⟨3 * s.val + u.val, by omega⟩ k o)

/-- What the call computes. -/
def out (W : FVec Ideal S9x128x12 .f32) (b : FVec Ideal S1x12 .f32) (x : Fin 3 → FVec Ideal S4x114x112x128 .f32)
    (n : Fin 4) (p : Fin 12544) (o : Fin 12) : EReal :=
  Ideal.logistic (tap x W 0 0 n p o + tap x W 0 1 n p o + tap x W 0 2 n p o
    + tap x W 1 0 n p o + tap x W 1 1 n p o + tap x W 1 2 n p o
    + tap x W 2 0 n p o + tap x W 2 1 n p o + tap x W 2 2 n p o + b (ix2 0 o))

/-- The call's array as a whole. -/
def REF (W : FVec Ideal S9x128x12 .f32) (b : FVec Ideal S1x12 .f32) (x : Fin 3 → FVec Ideal S4x114x112x128 .f32) :
    FVec Ideal S4x12544x12 .f32 := fun j => out W b x (j 0) (j 1) (j 2)

theorem idx : ∀ t : Fin cfg2.N, win2_0.index t = ![0, 0, 0] ∧ win2_1.index t = ![0, 0]
    ∧ win2_2.index t = ![t.val / 14, 0, 0, 0] ∧ win2_3.index t = ![t.val / 14, 0, 0, 0] ∧ win2_4.index t = ![t.val / 14, 0, 0, 0]
    ∧ win2_5.index t = ![t.val / 14, t.val % 14, 0] ∧ (grid2.coords t 1).val = t.val % 14 ∧ t.val / 14 < 4 :=
  (by decide +kernel : ∀ t : Fin grid2.N, _)

theorem lt (t : Fin cfg2.N) : t.val / 14 < 4 := (idx t).2.2.2.2.2.2.2

theorem blk0 (c : Dev nD) (t : Fin cfg2.N) (u : Fin 9) (k : Fin 128) (o : Fin 12) :
    (iblk2 V c 0 t : FVec Ideal S9x128x12 .f32) (ix3 u k o) = V c main_v149 (ix3 u k o) := by
  blk_point [iblk2, idx t]

theorem blk1 (c : Dev nD) (t : Fin cfg2.N) (z : Fin 1) (o : Fin 12) :
    (iblk2 V c 1 t : FVec Ideal S1x12 .f32) (ix2 z o) = V c main_v153 (ix2 z o) := by
  blk_point [iblk2, idx t]

theorem blk2 (c : Dev nD) (t : Fin cfg2.N) (z : Fin 1) (r : Fin 114) (s : Fin 112) (k : Fin 128) :
    (iblk2 V c 2 t : FVec Ideal S1x114x112x128 .f32) (ix4 z r s k) = V c main_v73 (ix4 ⟨t.val / 14, lt t⟩ r s k) := by
  blk_point [iblk2, idx t]

theorem blk3 (c : Dev nD) (t : Fin cfg2.N) (z : Fin 1) (r : Fin 114) (s : Fin 112) (k : Fin 128) :
    (iblk2 V c 3 t : FVec Ideal S1x114x112x128 .f32) (ix4 z r s k) = V c main_v74 (ix4 ⟨t.val / 14, lt t⟩ r s k) := by
  blk_point [iblk2, idx t]

theorem blk4 (c : Dev nD) (t : Fin cfg2.N) (z : Fin 1) (r : Fin 114) (s : Fin 112) (k : Fin 128) :
    (iblk2 V c 4 t : FVec Ideal S1x114x112x128 .f32) (ix4 z r s k) = V c main_v75 (ix4 ⟨t.val / 14, lt t⟩ r s k) := by
  blk_point [iblk2, idx t]

theorem emb5 (t : Fin cfg2.N) (z : Fin 1) (p : Fin 896) (o : Fin 12) :
    (((cfg2.win 5).blk t).view.emb (ix3 z p o) : S4x12544x12.Idx)
      = ix3 ⟨t.val / 14, lt t⟩ ⟨896 * (t.val % 14) + p, by omega⟩ o := by
  blk_ext [idx t]

theorem off (t : Fin cfg2.N) : k2_off1 (grid2.coords t) 0#32 = ![0, 8 * (t.val % 14), 0, 0]
    ∧ k2_off1 (grid2.coords t) 1#32 = ![0, 8 * (t.val % 14) + 1, 0, 0]
    ∧ k2_off1 (grid2.coords t) 2#32 = ![0, 8 * (t.val % 14) + 2, 0, 0] := by
  have h := Gen.k2_off1_eq (grid2.coords t)
  rw [(idx t).2.2.2.2.2.2.1] at h
  exact ⟨h 0, h 1, h 2⟩

/-- The three views as one family. -/
def views (c : Dev nD) : Fin 3 → FVec Ideal S4x114x112x128 .f32
  | 0 => V c main_v73
  | 1 => V c main_v74
  | 2 => V c main_v75

set_option maxHeartbeats 2000000 in
/-- The region leaves the layer's output in its result array. -/
theorem final (c : Dev nD) : (dat2 V c).arrAt 5 cfg2.N = REF (V c main_v149) (V c main_v153) (views V c) := by
  refine (dat2 V c).arrAt_eq_of_covers 5 _ (by decide +kernel) fun t _ y => ?_
  blk_simp
  rw [after2_5]
  unfold outsAt2
  frame_out
  have hy : ∃ (z : Fin 1) (p : Fin 896) (o : Fin 12), y = (ix3 z p o : S1x896x12.Idx) :=
    ⟨y 0, y 1, y 2, eq_ix3 (n0 := 1) (n1 := 896) (n2 := 12) y⟩
  obtain ⟨z, p, o, rfl⟩ := hy
  refine Eq.trans ?_ (congrArg (REF _ _ _) (emb5 t z p o)).symm
  obtain ⟨o0, o1, o2⟩ := off t
  pointwise [k2_pay1, k2_pay2, k2_pay3, k2_pay4, REF, out, tap, views]
  simp only [o0, o1, o2, Matrix.cons_val, blk0, blk1, blk2, blk3, blk4, zero_add]
  have h1 : (896 * (t.val % 14) + p.val) / 112 = 8 * (t.val % 14) + p.val / 112 := by omega
  have h2 : (896 * (t.val % 14) + p.val) % 112 = p.val % 112 := by omega
  simp only [h1, h2, Nat.add_right_comm (8 * (t.val % 14))]

end Cert.DecoderIdeal.R2

end
-- ==== Proof.Spec.lean ====
/- The layers of the network over the extended reals, as functions of curried indices: what both programs are shown to
   compute. An image batch is `n c i j ↦ value`; `ext` reads one plane with zeros outside it. -/
module

public import Idealize.ShloMosaic.PureOps.Ideal
public import Idealize.ShloMosaic.Lib.Pointwise

@[expose] public section

noncomputable section

namespace Cert.Spec

/-- A batch of four images of `C` planes of `H × W`. -/
abbrev Img (C H W : ℕ) : Type := Fin 4 → Fin C → Fin H → Fin W → EReal

/-- One plane, extended by zeros. -/
def ext {H W : ℕ} (f : Fin H → Fin W → EReal) (u v : ℤ) : EReal :=
  if h : (0 ≤ u ∧ u < (H : ℤ)) ∧ (0 ≤ v ∧ v < (W : ℤ)) then
    f ⟨u.toNat, by omega⟩ ⟨v.toNat, by omega⟩
  else 0

theorem ext_in {H W : ℕ} (f : Fin H → Fin W → EReal) (i : Fin H) (j : Fin W) {u v : ℤ} (hu : u = i) (hv : v = j) :
    ext f u v = f i j := by
  subst hu hv
  rw [ext, dif_pos ⟨⟨by omega, by omega⟩, by omega, by omega⟩]
  rfl

theorem ext_out {H W : ℕ} (f : Fin H → Fin W → EReal) {u v : ℤ}
    (h : u < 0 ∨ (H : ℤ) ≤ u ∨ v < 0 ∨ (W : ℤ) ≤ v) : ext f u v = 0 :=
  dif_neg (by omega)

/-- A plane padded by `d` zeros on every side, read by its own conditions. -/
theorem pad_by {H W H' W' : ℕ} (d : ℕ) (f : Fin H → Fin W → EReal) (r : Fin H') (s : Fin W') :
    (if h : (d ≤ r.val ∧ r.val - d < H) ∧ d ≤ s.val ∧ s.val - d < W then
      f ⟨r.val - d, h.1.2⟩ ⟨s.val - d, h.2.2⟩ else 0) = ext f ((r.val : ℤ) - (d : ℤ)) ((s.val : ℤ) - (d : ℤ)) := by
  split
  · exact (ext_in f _ _ (by dsimp only; omega) (by dsimp only; omega)).symm
  · exact (ext_out f (by omega)).symm

/-- One zero on every side. -/
theorem pad_ext {H W H' W' : ℕ} (f : Fin H → Fin W → EReal) (r : Fin H') (s : Fin W') :
    (if h : (1 ≤ r.val ∧ r.val - 1 < H) ∧ 1 ≤ s.val ∧ s.val - 1 < W then
      f ⟨r.val - 1, h.1.2⟩ ⟨s.val - 1, h.2.2⟩ else 0) = ext f ((r.val : ℤ) - 1) ((s.val : ℤ) - 1) := pad_by 1 f r s

/-- One plane with zeros between its pixels and around it. -/
def dil {H W : ℕ} (f : Fin H → Fin W → EReal) (u v : ℤ) : EReal :=
  if u % 2 = 0 ∧ v % 2 = 0 then ext f (u / 2) (v / 2) else 0

/-- A plane padded by two zeros on every low side, zeros between its pixels, read by its own conditions. -/
theorem pad_dil {H W H' W' : ℕ} (f : Fin H → Fin W → EReal) (r : Fin H') (s : Fin W') :
    (if h : (2 ≤ r.val ∧ (r.val - 2) % 2 = 0 ∧ (r.val - 2) / 2 < H) ∧ 2 ≤ s.val ∧ (s.val - 2) % 2 = 0 ∧ (s.val - 2) / 2 < W then
      f ⟨(r.val - 2) / 2, h.1.2.2⟩ ⟨(s.val - 2) / 2, h.2.2.2⟩ else 0) = dil f ((r.val : ℤ) - 2) ((s.val : ℤ) - 2) := by
  unfold dil
  split
  · rw [if_pos (by omega)]
    exact (ext_in f _ _ (by dsimp only; omega) (by dsimp only; omega)).symm
  · split
    · exact (ext_out f (by omega)).symm
    · rfl

/-- Sixteen taps, row by row, added from the left. -/
def sum16 (f : Fin 4 → Fin 4 → EReal) : EReal :=
  f 0 0 + f 0 1 + f 0 2 + f 0 3 + f 1 0 + f 1 1 + f 1 2 + f 1 3
    + f 2 0 + f 2 1 + f 2 2 + f 2 3 + f 3 0 + f 3 1 + f 3 2 + f 3 3

/-- Nine taps, row by row, added from the left. -/
def sum9 (f : Fin 3 → Fin 3 → EReal) : EReal :=
  f 0 0 + f 0 1 + f 0 2 + f 1 0 + f 1 1 + f 1 2 + f 2 0 + f 2 1 + f 2 2

theorem sum9_of {f : Fin 3 → Fin 3 → EReal} {a b c d e g h i j : EReal} (h0 : a = f 0 0) (h1 : b = f 0 1) (h2 : c = f 0 2)
    (h3 : d = f 1 0) (h4 : e = f 1 1) (h5 : g = f 1 2) (h6 : h = f 2 0) (h7 : i = f 2 1) (h8 : j = f 2 2) :
    a + b + c + d + e + g + h + i + j = sum9 f := by
  subst h0 h1 h2 h3 h4 h5 h6 h7 h8
  rfl

theorem sum16_of {f : Fin 4 → Fin 4 → EReal} {a b c d e g h i j k l m n o p q : EReal} (h0 : a = f 0 0) (h1 : b = f 0 1)
    (h2 : c = f 0 2) (h3 : d = f 0 3) (h4 : e = f 1 0) (h5 : g = f 1 1) (h6 : h = f 1 2) (h7 : i = f 1 3) (h8 : j = f 2 0)
    (h9 : k = f 2 1) (h10 : l = f 2 2) (h11 : m = f 2 3) (h12 : n = f 3 0) (h13 : o = f 3 1) (h14 : p = f 3 2)
    (h15 : q = f 3 3) :
    a + b + c + d + e + g + h + i + j + k + l + m + n + o + p + q = sum16 f := by
  subst h0 h1 h2 h3 h4 h5 h6 h7 h8 h9 h10 h11 h12 h13 h14 h15
  rfl

/-- Four taps, row by row, added from the left. -/
def sum4 (f : Fin 2 → Fin 2 → EReal) : EReal := f 0 0 + f 0 1 + f 1 0 + f 1 1

/-- A `4 × 4` convolution of stride two and padding one, with bias and the positive part. -/
def conv4 {C O H W : ℕ} (H' W' : ℕ) (x : Img C H W) (w : Fin O → Fin C → Fin 4 → Fin 4 → EReal) (b : Fin O → EReal) :
    Img O H' W' := fun n o i j =>
  max (sum16 (fun ki kj => ∑ c, ext (x n c) (2 * (i : ℤ) + (ki : ℕ) - 1) (2 * (j : ℤ) + (kj : ℕ) - 1) * w o c ki kj) + b o) 0

/-- A `3 × 3` convolution of stride one and padding one, with bias. -/
def conv3 {C O H W : ℕ} (x : Img C H W) (w : Fin O → Fin C → Fin 3 → Fin 3 → EReal) (b : Fin O → EReal) :
    Img O H W := fun n o i j =>
  sum9 (fun ki kj => ∑ c, ext (x n c) ((i : ℤ) + (ki : ℕ) - 1) ((j : ℤ) + (kj : ℕ) - 1) * w o c ki kj) + b o

/-- A `1 × 1` convolution with bias. -/
def conv1 {C O H W : ℕ} (x : Img C H W) (w : Fin O → Fin C → EReal) (b : Fin O → EReal) : Img O H W := fun n o i j =>
  ∑ c, x n c i j * w o c + b o

/-- The positive part. -/
def relu {C H W : ℕ} (x : Img C H W) : Img C H W := fun n o i j => max (x n o i j) 0

/-- One tap of a transposed `4 × 4` convolution of stride two at output pixel `(i, j)`: the two rows and two columns of
    the input it meets are counted by `p` and `q`. -/
def tapT {C H W : ℕ} (x : Fin C → Fin H → Fin W → EReal) (w : Fin C → Fin 4 → Fin 4 → EReal) (i j : ℕ) (p q : Fin 2) :
    EReal :=
  ∑ c, ext (x c) ((i / 2 : ℕ) + (i % 2 : ℕ) - (p : ℕ)) ((j / 2 : ℕ) + (j % 2 : ℕ) - (q : ℕ))
    * w c ⟨2 * p + 1 - i % 2, by omega⟩ ⟨2 * q + 1 - j % 2, by omega⟩

/-- A transposed `4 × 4` convolution of stride two and padding one, with bias: an output pixel meets four taps. -/
def convT4 {C O H W : ℕ} (H' W' : ℕ) (x : Img C H W) (w : Fin C → Fin O → Fin 4 → Fin 4 → EReal) (b : Fin O → EReal) :
    Img O H' W' := fun n o i j =>
  sum4 (tapT (x n) (fun c => w c o) i j) + b o

/-- The filter turned around, inputs and outputs exchanged: a transposed `3 × 3` convolution of stride one and padding
    one is the convolution by it. -/
def turn {C O : ℕ} (w : Fin C → Fin O → Fin 3 → Fin 3 → EReal) : Fin O → Fin C → Fin 3 → Fin 3 → EReal :=
  fun o c ki kj => w c o (2 - ki) (2 - kj)

/-- The decoder's first hidden layer. -/
def hid1 (q : Img 64 56 56) (w : Fin 64 → Fin 128 → Fin 3 → Fin 3 → EReal) (b : Fin 128 → EReal) : Img 128 56 56 :=
  relu (conv3 q (turn w) b)

/-- The decoder's second hidden layer, from the first. -/
def hid2 (h : Img 128 56 56) (w : Fin 128 → Fin 128 → Fin 4 → Fin 4 → EReal) (b : Fin 128 → EReal) : Img 128 112 112 :=
  relu (convT4 112 112 h w b)

/-- The decoder's result, from the second hidden layer. -/
def image (h : Img 128 112 112) (w : Fin 128 → Fin 3 → Fin 4 → Fin 4 → EReal) (b : Fin 3 → EReal) : Img 3 224 224 :=
  fun n o i j => Idealize.ShloMosaic.Ideal.logistic (convT4 224 224 h w b n o i j)

/-- The encoder's result, from its second hidden layer. -/
def code (h : Img 128 56 56) (w : Fin 128 → Fin 128 → Fin 3 → Fin 3 → EReal) (b : Fin 128 → EReal)
    (wp : Fin 64 → Fin 128 → EReal) (bp : Fin 64 → EReal) : Img 64 56 56 := conv1 (conv3 h w b) wp bp

/-- Forty-eight products in one sum: three channels, tap by tap. -/
theorem sum48 (f : Fin 48 → EReal) :
    ∑ x, f x = sum16 (fun ki kj => ∑ k : Fin 3, f ⟨(4 * ki.val + kj.val) * 3 + k.val, by omega⟩) := by
  simp only [sum16, Fin.sum_univ_castSucc, Fin.sum_univ_zero, zero_add]
  simp only [← add_assoc]
  rfl

theorem dil_odd {H W : ℕ} (f : Fin H → Fin W → EReal) {u v : ℤ} (h : ¬ (u % 2 = 0 ∧ v % 2 = 0)) : dil f u v = 0 := if_neg h

theorem dil_even {H W : ℕ} (f : Fin H → Fin W → EReal) {u v u' v' : ℤ} (hu : u = 2 * u') (hv : v = 2 * v') :
    dil f u v = ext f u' v' := by
  subst hu hv
  rw [dil, if_pos ⟨by omega, by omega⟩]
  congr 1 <;> omega

/-- A tap of the turned filter that meets a zero between the pixels adds nothing. -/
theorem tap_odd {C H W : ℕ} (x : Fin C → Fin H → Fin W → EReal) (w : Fin C → EReal) {u v : ℤ}
    (h : ¬ (u % 2 = 0 ∧ v % 2 = 0)) : ∑ c, w c * dil (x c) u v = 0 :=
  Finset.sum_eq_zero fun c _ => by rw [dil_odd _ h, mul_zero]

/-- A tap of the turned filter that meets a pixel. -/
theorem tap_even {C H W : ℕ} (x : Fin C → Fin H → Fin W → EReal) (w : Fin C → Fin 4 → Fin 4 → EReal) {i j : ℕ} (p q : Fin 2)
    (ki kj : Fin 4) {u v : ℤ}
    (hu : u = 2 * ((i / 2 : ℕ) + (i % 2 : ℕ) - (p : ℕ) : ℤ)) (hv : v = 2 * ((j / 2 : ℕ) + (j % 2 : ℕ) - (q : ℕ) : ℤ))
    (hi : (ki : ℕ) = 2 * p + 1 - i % 2) (hj : (kj : ℕ) = 2 * q + 1 - j % 2) :
    ∑ c, w c ki kj * dil (x c) u v = tapT x w i j p q :=
  Finset.sum_congr rfl fun c _ => by
    rw [dil_even _ hu hv, mul_comm]
    congr 2 <;> exact Fin.ext (by assumption)

/-- Sixteen taps of the turned filter over the image with zeros between its pixels are the four taps that meet a pixel. -/
theorem sum16_dil {C H W : ℕ} (x : Fin C → Fin H → Fin W → EReal) (w : Fin C → Fin 4 → Fin 4 → EReal) (i j : ℕ) :
    sum16 (fun ki kj => ∑ c, w c (3 - ki) (3 - kj) * dil (x c) ((i : ℤ) + (ki : ℕ) - 2) ((j : ℤ) + (kj : ℕ) - 2))
      = sum4 (tapT x w i j) := by
  have odd : ∀ (ki kj : Fin 4), ¬ ((i + ki) % 2 = 0 ∧ (j + kj) % 2 = 0) →
      ∑ c, w c (3 - ki) (3 - kj) * dil (x c) ((i : ℤ) + (ki : ℕ) - 2) ((j : ℤ) + (kj : ℕ) - 2) = 0 :=
    fun ki kj h => tap_odd x _ (by omega)
  have even : ∀ (ki kj : Fin 4) (p q : Fin 2), (ki : ℕ) + 2 * p = i % 2 + 2 → (kj : ℕ) + 2 * q = j % 2 + 2 →
      ∑ c, w c (3 - ki) (3 - kj) * dil (x c) ((i : ℤ) + (ki : ℕ) - 2) ((j : ℤ) + (kj : ℕ) - 2) = tapT x w i j p q :=
    fun ki kj p q hp hq => tap_even x w p q _ _ (by omega) (by omega)
      (by have : ((3 - ki : Fin 4) : ℕ) = 3 - ki := Fin.sub_val_of_le (by omega); omega)
      (by have : ((3 - kj : Fin 4) : ℕ) = 3 - kj := Fin.sub_val_of_le (by omega); omega)
  unfold sum16 sum4
  beta_reduce
  rcases Nat.mod_two_eq_zero_or_one i with hi | hi <;> rcases Nat.mod_two_eq_zero_or_one j with hj | hj
  · rw [even 0 0 1 1 (by simp [hi]) (by simp [hj]), even 0 2 1 0 (by simp [hi]) (by simp [hj]),
      even 2 0 0 1 (by simp [hi]) (by simp [hj]), even 2 2 0 0 (by simp [hi]) (by simp [hj]),
      odd 0 1 (by simp; omega), odd 0 3 (by simp; omega), odd 1 0 (by simp; omega), odd 1 1 (by simp; omega),
      odd 1 2 (by simp; omega), odd 1 3 (by simp; omega), odd 2 1 (by simp; omega), odd 2 3 (by simp; omega),
      odd 3 0 (by simp; omega), odd 3 1 (by simp; omega), odd 3 2 (by simp; omega), odd 3 3 (by simp; omega)]
    simp only [add_zero]; abel
  · rw [even 0 1 1 1 (by simp [hi]) (by simp [hj]), even 0 3 1 0 (by simp [hi]) (by simp [hj]),
      even 2 1 0 1 (by simp [hi]) (by simp [hj]), even 2 3 0 0 (by simp [hi]) (by simp [hj]),
      odd 0 0 (by simp; omega), odd 0 2 (by simp; omega), odd 1 0 (by simp; omega), odd 1 1 (by simp; omega),
      odd 1 2 (by simp; omega), odd 1 3 (by simp; omega), odd 2 0 (by simp; omega), odd 2 2 (by simp; omega),
      odd 3 0 (by simp; omega), odd 3 1 (by simp; omega), odd 3 2 (by simp; omega), odd 3 3 (by simp; omega)]
    simp only [add_zero, zero_add]; abel
  · rw [even 1 0 1 1 (by simp [hi]) (by simp [hj]), even 1 2 1 0 (by simp [hi]) (by simp [hj]),
      even 3 0 0 1 (by simp [hi]) (by simp [hj]), even 3 2 0 0 (by simp [hi]) (by simp [hj]),
      odd 0 0 (by simp; omega), odd 0 1 (by simp; omega), odd 0 2 (by simp; omega), odd 0 3 (by simp; omega),
      odd 1 1 (by simp; omega), odd 1 3 (by simp; omega), odd 2 0 (by simp; omega), odd 2 1 (by simp; omega),
      odd 2 2 (by simp; omega), odd 2 3 (by simp; omega), odd 3 1 (by simp; omega), odd 3 3 (by simp; omega)]
    simp only [add_zero, zero_add]; abel
  · rw [even 1 1 1 1 (by simp [hi]) (by simp [hj]), even 1 3 1 0 (by simp [hi]) (by simp [hj]),
      even 3 1 0 1 (by simp [hi]) (by simp [hj]), even 3 3 0 0 (by simp [hi]) (by simp [hj]),
      odd 0 0 (by simp; omega), odd 0 1 (by simp; omega), odd 0 2 (by simp; omega), odd 0 3 (by simp; omega),
      odd 1 0 (by simp; omega), odd 1 2 (by simp; omega), odd 2 0 (by simp; omega), odd 2 1 (by simp; omega),
      odd 2 2 (by simp; omega), odd 2 3 (by simp; omega), odd 3 0 (by simp; omega), odd 3 2 (by simp; omega)]
    simp only [add_zero, zero_add]; abel

/-- The nine blocks over the padded image, of which an output of parity `(i % 2, j % 2)` uses four, the others being zero. -/
theorem sum9_blocks {C H W : ℕ} (x : Fin C → Fin H → Fin W → EReal) (w : Fin C → Fin 4 → Fin 4 → EReal) (i j : ℕ)
    (B : Fin 3 → Fin 3 → Fin C → EReal)
    (hz : ∀ (s t : Fin 3), (s = 2 * (1 - ⟨i % 2, by omega⟩ : Fin 3) ∨ t = 2 * (1 - ⟨j % 2, by omega⟩ : Fin 3)) → ∀ c, B s t c = 0)
    (hw : ∀ (s t : Fin 3) (p q : Fin 2), (s : ℕ) + p = i % 2 + 1 → (t : ℕ) + q = j % 2 + 1 →
      ∀ c, B s t c = w c ⟨2 * p + 1 - i % 2, by omega⟩ ⟨2 * q + 1 - j % 2, by omega⟩) :
    sum9 (fun s t => ∑ c, ext (x c) ((i / 2 : ℕ) + (s : ℕ) - 1) ((j / 2 : ℕ) + (t : ℕ) - 1) * B s t c)
      = sum4 (tapT x w i j) := by
  have zero : ∀ (s t : Fin 3), (s = 2 * (1 - ⟨i % 2, by omega⟩ : Fin 3) ∨ t = 2 * (1 - ⟨j % 2, by omega⟩ : Fin 3)) →
      ∑ c, ext (x c) ((i / 2 : ℕ) + (s : ℕ) - 1) ((j / 2 : ℕ) + (t : ℕ) - 1) * B s t c = 0 :=
    fun s t h => Finset.sum_eq_zero fun c _ => by rw [hz s t h c, mul_zero]
  have tap : ∀ (s t : Fin 3) (p q : Fin 2), (s : ℕ) + p = i % 2 + 1 → (t : ℕ) + q = j % 2 + 1 →
      ∑ c, ext (x c) ((i / 2 : ℕ) + (s : ℕ) - 1) ((j / 2 : ℕ) + (t : ℕ) - 1) * B s t c = tapT x w i j p q :=
    fun s t p q hs ht => Finset.sum_congr rfl fun c _ => by
      rw [hw s t p q hs ht c]
      congr 2 <;> omega
  unfold sum9 sum4
  beta_reduce
  rcases Nat.mod_two_eq_zero_or_one i with hi | hi <;> rcases Nat.mod_two_eq_zero_or_one j with hj | hj
  · rw [tap 0 0 1 1 (by simp [hi]) (by simp [hj]), tap 0 1 1 0 (by simp [hi]) (by simp [hj]),
      tap 1 0 0 1 (by simp [hi]) (by simp [hj]), tap 1 1 0 0 (by simp [hi]) (by simp [hj]),
      zero 0 2 (by simp [hi, hj]), zero 1 2 (by simp [hi, hj]), zero 2 0 (by simp [hi, hj]), zero 2 1 (by simp [hi, hj]),
      zero 2 2 (by simp [hi, hj])]
    simp only [add_zero]; abel
  · rw [tap 0 1 1 1 (by simp [hi]) (by simp [hj]), tap 0 2 1 0 (by simp [hi]) (by simp [hj]),
      tap 1 1 0 1 (by simp [hi]) (by simp [hj]), tap 1 2 0 0 (by simp [hi]) (by simp [hj]),
      zero 0 0 (by simp [hi, hj]), zero 1 0 (by simp [hi, hj]), zero 2 0 (by simp [hi, hj]), zero 2 1 (by simp [hi, hj]),
      zero 2 2 (by simp [hi, hj])]
    simp only [add_zero, zero_add]; abel
  · rw [tap 1 0 1 1 (by simp [hi]) (by simp [hj]), tap 1 1 1 0 (by simp [hi]) (by simp [hj]),
      tap 2 0 0 1 (by simp [hi]) (by simp [hj]), tap 2 1 0 0 (by simp [hi]) (by simp [hj]),
      zero 0 0 (by simp [hi, hj]), zero 0 1 (by simp [hi, hj]), zero 0 2 (by simp [hi, hj]), zero 1 2 (by simp [hi, hj]),
      zero 2 2 (by simp [hi, hj])]
    simp only [add_zero, zero_add]; abel
  · rw [tap 1 1 1 1 (by simp [hi]) (by simp [hj]), tap 1 2 1 0 (by simp [hi]) (by simp [hj]),
      tap 2 1 0 1 (by simp [hi]) (by simp [hj]), tap 2 2 0 0 (by simp [hi]) (by simp [hj]),
      zero 0 0 (by simp [hi, hj]), zero 0 1 (by simp [hi, hj]), zero 0 2 (by simp [hi, hj]), zero 1 0 (by simp [hi, hj]),
      zero 2 0 (by simp [hi, hj])]
    simp only [add_zero, zero_add]; abel

end Cert.Spec

end
-- ==== Proof.DecHost.lean ====
/- The decoder's host operations between its calls, read element by element, at any contents of the buffers before them. -/
module

public import proofs.«01_k».proof.Proof.Gen.DecoderIdeal.Launch
public import proofs.«01_k».proof.Proof.Spec
public import Idealize.ShloMosaic.Lib.StableHlo.ReadAt
public import Idealize.ShloMosaic.Lib.Pointwise

@[expose] public section

set_option maxRecDepth 16384

noncomputable section

namespace Cert.DecoderIdeal.Host

open Idealize.ShloMosaic Idealize.ShloMosaic.TcCoe Idealize.SL.Sem
open Cert.DecoderIdeal Cert.DecoderIdeal.Gen Cert.Spec

variable (V : Valuation τ sig (Elt Ideal))

/-- A padding value converted from the integer zero. -/
theorem zero_of {c : IVec S_ 32} (h : c = constantI S_ 32 0#32) (i : S_.Idx) :
    (FloatOps.sitofp FTy.f32 (c i) : Ideal FTy.f32) = (0 : EReal) := by
  subst h
  show ((((0#32 : BitVec 32).toInt : ℝ) : EReal)) = 0
  simp

/-! ## Before the first call -/

theorem v0_at (n : Fin 4) (i j : Fin 56) (k : Fin 64) :
    StableHlo.after hostOps0 V ↑main_v0 (ix4 n i j k : S4x56x56x64.Idx) = V ↑main_arg0 (ix4 n k i j : S4x64x56x56.Idx) := by
  after_reads_at

theorem c0 : StableHlo.after hostOps0 V ↑main_c = constantI S_ 32 0#32 := by
  after_reads_simp

theorem v3_at (s u : Fin 3) (k : Fin 64) (o : Fin 128) :
    StableHlo.after hostOps0 V ↑main_v3 (ix3 ⟨3 * s.val + u.val, by omega⟩ k o : S9x64x128.Idx)
      = V ↑main_arg1 (ix4 k o (2 - s) (2 - u) : S64x128x3x3.Idx) := by
  have rev (x : Fin 3) : x.rev = 2 - x := by revert x; decide
  after_reads_at
  simp [rev]

theorem v4_at (n : Fin 4) (r s : Fin 58) (k : Fin 64) (hc : V ↑main_c = constantI S_ 32 0#32) :
    StableHlo.after hostOps0_1 V ↑main_v4 (ix4 n r s k : S4x58x58x64.Idx)
      = ext (fun i j => V ↑main_v0 (ix4 n i j k : S4x56x56x64.Idx)) (r.val - 1) (s.val - 1) := by
  after_reads_at
  rw [zero_of hc]
  exact pad_ext (fun i j => V ↑main_v0 (ix4 n i j k : S4x56x56x64.Idx)) r s

theorem x0_at (n : Fin 4) (r : Fin 58) (s : Fin 56) (k : Fin 64) :
    StableHlo.after hostOps0_2 V ↑main_v5 (ix4 n r s k : S4x58x56x64.Idx) = V ↑main_v4 (ix4 n r ⟨s.val + 0, by omega⟩ k : S4x58x58x64.Idx)
    ∧ StableHlo.after hostOps0_2 V ↑main_v6 (ix4 n r s k : S4x58x56x64.Idx) = V ↑main_v4 (ix4 n r ⟨s.val + 1, by omega⟩ k : S4x58x58x64.Idx)
    ∧ StableHlo.after hostOps0_2 V ↑main_v7 (ix4 n r s k : S4x58x56x64.Idx) = V ↑main_v4 (ix4 n r ⟨s.val + 2, by omega⟩ k : S4x58x58x64.Idx) := by
  refine ⟨?_, ?_, ?_⟩ <;> after_reads_at <;> simp only [Nat.add_comm, Nat.add_zero, Nat.zero_add]

theorem v10_at (o : Fin 128) :
    StableHlo.after hostOps0_2 V ↑main_v10 (ix2 0 o : S1x128.Idx) = V ↑main_arg2 (ix1 o : S128.Idx) := by
  after_reads_at

/-! ## Between the first and the second call -/

theorem v13_at (n : Fin 4) (i j : Fin 56) (k : Fin 128) :
    StableHlo.after hostOps1 V ↑main_v13 (ix4 n i j k : S4x56x56x128.Idx)
      = V ↑main_v12 (ix3 n ⟨i.val * 56 + j.val, by omega⟩ k : S4x3136x128.Idx) := by
  after_reads_at

theorem c1 : StableHlo.after hostOps1 V ↑main_c_1 = constantI S_ 32 0#32 := by
  after_reads_simp

theorem v14_at (n : Fin 4) (r s : Fin 58) (k : Fin 128) (hc : V ↑main_c_1 = constantI S_ 32 0#32) :
    StableHlo.after hostOps1_1 V ↑main_v14 (ix4 n r s k : S4x58x58x128.Idx)
      = ext (fun i j => V ↑main_v13 (ix4 n i j k : S4x56x56x128.Idx)) (r.val - 1) (s.val - 1) := by
  after_reads_at
  rw [zero_of hc]
  exact pad_ext (fun i j => V ↑main_v13 (ix4 n i j k : S4x56x56x128.Idx)) r s

theorem x1_at (n : Fin 4) (r : Fin 58) (s : Fin 56) (k : Fin 128) :
    StableHlo.after hostOps1_2 V ↑main_v15 (ix4 n r s k : S4x58x56x128.Idx) = V ↑main_v14 (ix4 n r ⟨s.val + 0, by omega⟩ k : S4x58x58x128.Idx)
    ∧ StableHlo.after hostOps1_2 V ↑main_v16 (ix4 n r s k : S4x58x56x128.Idx) = V ↑main_v14 (ix4 n r ⟨s.val + 1, by omega⟩ k : S4x58x58x128.Idx)
    ∧ StableHlo.after hostOps1_2 V ↑main_v17 (ix4 n r s k : S4x58x56x128.Idx) = V ↑main_v14 (ix4 n r ⟨s.val + 2, by omega⟩ k : S4x58x58x128.Idx) := by
  refine ⟨?_, ?_, ?_⟩ <;> after_reads_at <;> simp only [Nat.add_comm, Nat.add_zero, Nat.zero_add]

theorem v67_at (o : Fin 128) :
    StableHlo.after hostOps1_2 V ↑main_v67 (ix2 0 o : S1x128.Idx) = V ↑main_arg4 (ix1 o : S128.Idx) := by
  after_reads_at

/-! ## Between the second and the third call -/

theorem v71_at (n : Fin 4) (i j : Fin 112) (k : Fin 128) :
    StableHlo.after hostOps2 V ↑main_v71 (ix4 n i j k : S4x112x112x128.Idx)
      = V ↑main_v68 (ix3 n ⟨i.val / 2 * 56 + j.val / 2, by omega⟩ ⟨(i.val % 2) * 256 + (j.val % 2) * 128 + k.val, by omega⟩ : S4x3136x512.Idx) := by
  after_reads_at

theorem c2 : StableHlo.after hostOps2 V ↑main_c_2 = constantI S_ 32 0#32 := by
  after_reads_simp

theorem v72_at (n : Fin 4) (r s : Fin 114) (k : Fin 128) (hc : V ↑main_c_2 = constantI S_ 32 0#32) :
    StableHlo.after hostOps2_1 V ↑main_v72 (ix4 n r s k : S4x114x114x128.Idx)
      = ext (fun i j => V ↑main_v71 (ix4 n i j k : S4x112x112x128.Idx)) (r.val - 1) (s.val - 1) := by
  after_reads_at
  rw [zero_of hc]
  exact pad_ext (fun i j => V ↑main_v71 (ix4 n i j k : S4x112x112x128.Idx)) r s

theorem x2_at (n : Fin 4) (r : Fin 114) (s : Fin 112) (k : Fin 128) :
    StableHlo.after hostOps2_2 V ↑main_v73 (ix4 n r s k : S4x114x112x128.Idx) = V ↑main_v72 (ix4 n r ⟨s.val + 0, by omega⟩ k : S4x114x114x128.Idx)
    ∧ StableHlo.after hostOps2_2 V ↑main_v74 (ix4 n r s k : S4x114x112x128.Idx) = V ↑main_v72 (ix4 n r ⟨s.val + 1, by omega⟩ k : S4x114x114x128.Idx)
    ∧ StableHlo.after hostOps2_2 V ↑main_v75 (ix4 n r s k : S4x114x112x128.Idx) = V ↑main_v72 (ix4 n r ⟨s.val + 2, by omega⟩ k : S4x114x114x128.Idx) := by
  refine ⟨?_, ?_, ?_⟩ <;> after_reads_at <;> simp only [Nat.add_comm, Nat.add_zero, Nat.zero_add]

theorem v153_at (q : Fin 4) (o : Fin 3) :
    StableHlo.after hostOps2_2 V ↑main_v153 (ix2 0 ⟨q.val * 3 + o.val, by omega⟩ : S1x12.Idx) = V ↑main_arg6 (ix1 o : S3.Idx) := by
  after_reads_at
  congr 2
  exact Fin.ext (by dsimp only; omega)

/-! ## After the third call -/

theorem v158_at (n : Fin 4) (o : Fin 3) (i j : Fin 224) :
    StableHlo.after hostOps3 V ↑main_v158 (ix4 n o i j : S4x3x224x224.Idx)
      = V ↑main_v154 (ix3 n ⟨i.val / 2 * 112 + j.val / 2, by omega⟩ ⟨(i.val % 2) * 6 + (j.val % 2) * 3 + o.val, by omega⟩ : S4x12544x12.Idx) := by
  after_reads_at

end Cert.DecoderIdeal.Host

end
-- ==== Proof.DecWeights.lean ====
/- The decoder's stacked filters, read element by element. -/
module

public import proofs.«01_k».proof.Proof.Gen.DecoderIdeal.Launch
public import proofs.«01_k».proof.Proof.Spec
public import Idealize.ShloMosaic.Lib.StableHlo.ReadAt
public import Idealize.ShloMosaic.Lib.Pointwise

@[expose] public section

set_option maxRecDepth 16384

noncomputable section

namespace Cert.DecoderIdeal.Host

open Idealize.ShloMosaic Idealize.ShloMosaic.TcCoe Idealize.SL.Sem
open Cert.DecoderIdeal Cert.DecoderIdeal.Gen Cert.Spec

variable (V : Valuation τ sig (Elt Ideal))

/-- Sixteen pieces stacked, read at a piece. -/
theorem stack16 (f : Fin 16 → FVec Ideal S1x128x128 .f32) (t : Fin 16) (k o : Fin 128)
    (h : Shape.Concatenates ((List.ofFn fun n : Fin 16 => (⟨S1x128x128, f n⟩ : (s : Shape) × (s.Idx → Elt Ideal .f32))).map (·.1)) S16x128x128 0) :
    concatenate S16x128x128 0 (List.ofFn fun n : Fin 16 => (⟨S1x128x128, f n⟩ : (s : Shape) × (s.Idx → Elt Ideal .f32))) h (ix3 t k o)
      = f t (ix3 0 k o) := by
  refine concatenate_ofFn_unit_apply 0 f h rfl rfl _ t rfl _ fun b hb => ?_
  match b, hb with
  | 0, hb => exact absurd rfl hb
  | 1, _ => rfl
  | 2, _ => rfl

set_option backward.isDefEq.respectTransparency.types false in
set_option maxHeartbeats 2000000 in
theorem v66_at (t : Fin 16) (k o : Fin 128) :
    StableHlo.after hostOps1_2 V ↑main_v66 (ix3 t k o : S16x128x128.Idx)
      = V ↑main_arg3 (ix4 k o ⟨2 * (t.val / 2 % 2) + 1 - t.val / 8, by omega⟩ ⟨2 * (t.val % 2) + 1 - t.val / 4 % 2, by omega⟩ : S128x128x4x4.Idx) := by
  simp only [StableHlo.readAfter, StableHlo.nary_result']
  let W := StableHlo.upto hostOps1_2 V 51
  refine (stack16 ![W ↑main_v50, W ↑main_v51, W ↑main_v52, W ↑main_v53, W ↑main_v54, W ↑main_v55, W ↑main_v56, W ↑main_v57, W ↑main_v58, W ↑main_v59, W ↑main_v60, W ↑main_v61, W ↑main_v62, W ↑main_v63, W ↑main_v64, W ↑main_v65] t k o _).trans ?_
  fin_cases t
  all_goals
    simp only [W, Matrix.cons_val]
    after_reads_at

/-- Three pieces stacked. -/
theorem stack3 (a b d : FVec Ideal S1x128x12 .f32) (t : Fin 3) (k : Fin 128) (c : Fin 12) (h) :
    concatenate S3x128x12 0 [⟨S1x128x12, a⟩, ⟨S1x128x12, b⟩, ⟨S1x128x12, d⟩] h (ix3 t k c) = ![a, b, d] t (ix3 0 k c) := by
  refine concatenate_ofFn_unit_apply 0 ![a, b, d] h rfl rfl _ t rfl _ fun j hj => ?_
  match j, hj with
  | 0, hj => exact absurd rfl hj
  | 1, _ => rfl
  | 2, _ => rfl

/-- Three stacks, one after the other. -/
theorem rows3 (a b d : FVec Ideal S3x128x12 .f32) (s u : Fin 3) (k : Fin 128) (c : Fin 12) (h) :
    concatenate S9x128x12 0 [⟨S3x128x12, a⟩, ⟨S3x128x12, b⟩, ⟨S3x128x12, d⟩] h (ix3 ⟨3 * s.val + u.val, by omega⟩ k c)
      = ![a, b, d] s (ix3 u k c) := by
  fin_cases s <;> pointwise
  rw [dif_neg (by omega), dif_neg (by omega)]
  congr 2
  exact Fin.ext (by dsimp only; omega)

set_option backward.isDefEq.respectTransparency.types false in
set_option maxHeartbeats 4000000 in
theorem v149_at (s u : Fin 3) (q : Fin 4) (o : Fin 3) (k : Fin 128) :
    StableHlo.after hostOps2_2 V ↑main_v149 (ix3 ⟨3 * s.val + u.val, by omega⟩ k ⟨q.val * 3 + o.val, by omega⟩ : S9x128x12.Idx)
      = if q.val / 2 ≤ s.val ∧ s.val ≤ q.val / 2 + 1 ∧ q.val % 2 ≤ u.val ∧ u.val ≤ q.val % 2 + 1 then
          V ↑main_arg5 (ix4 k o ⟨(2 * (q.val / 2 + 1 - s.val) + 1 - q.val / 2) % 4, by omega⟩
            ⟨(2 * (q.val % 2 + 1 - u.val) + 1 - q.val % 2) % 4, by omega⟩ : S128x3x4x4.Idx)
        else (0 : EReal) := by
  simp only [StableHlo.readAfter, StableHlo.nary_result']
  refine (rows3 _ _ _ s u k _ _).trans ?_
  obtain rfl | rfl | rfl : s = 0 ∨ s = 1 ∨ s = 2 := by omega
  all_goals
    simp only [Matrix.cons_val, StableHlo.readUpto, StableHlo.nary_result']
    refine (stack3 _ _ _ u k _ _).trans ?_
    obtain rfl | rfl | rfl : u = 0 ∨ u = 1 ∨ u = 2 := by omega
  all_goals
    simp only [Matrix.cons_val, StableHlo.readUpto, StableHlo.unary_result', StableHlo.nary_result']
    pointwise
  all_goals
    fin_vals q with hq
  all_goals
    simp only [hq]
    split_ifs <;> first | omega | after_reads_at
  all_goals
    first
    | (congr 2; exact Fin.ext (by dsimp only; omega))
    | simp
end Cert.DecoderIdeal.Host

end
-- ==== Proof.DecValue.lean ====
/- What the decoder's run leaves in its result array: the layers of Spec.lean, one after the other. -/
module

public import proofs.«01_k».proof.Proof.Dec0
public import proofs.«01_k».proof.Proof.Dec1
public import proofs.«01_k».proof.Proof.Dec2
public import proofs.«01_k».proof.Proof.DecHost
public import proofs.«01_k».proof.Proof.DecWeights

@[expose] public section

set_option maxRecDepth 16384

noncomputable section

namespace Cert.DecoderIdeal.Value

open Idealize.ShloMosaic Idealize.ShloMosaic.TcCoe Idealize.SL.Sem
open Cert.DecoderIdeal Cert.DecoderIdeal.Gen Cert.DecoderIdeal.Host Cert.Spec

variable (m : (ℓ : Loc nD τ sig) → Buf (Elt Ideal) ℓ) (ρ : Dev nD → PrngReg) (c : Dev nD)

/-- The arguments as functions of curried indices. -/
def q : Img 64 56 56 := fun n k i j => m ((c.tc : Thread nD τ).loc main_arg0) (ix4 n k i j : S4x64x56x56.Idx)
def w1 : Fin 64 → Fin 128 → Fin 3 → Fin 3 → EReal := fun k o i j => m ((c.tc : Thread nD τ).loc main_arg1) (ix4 k o i j : S64x128x3x3.Idx)
def b1 : Fin 128 → EReal := fun o => m ((c.tc : Thread nD τ).loc main_arg2) (ix1 o : S128.Idx)
def w2 : Fin 128 → Fin 128 → Fin 4 → Fin 4 → EReal := fun k o i j => m ((c.tc : Thread nD τ).loc main_arg3) (ix4 k o i j : S128x128x4x4.Idx)
def b2 : Fin 128 → EReal := fun o => m ((c.tc : Thread nD τ).loc main_arg4) (ix1 o : S128.Idx)
def w3 : Fin 128 → Fin 3 → Fin 4 → Fin 4 → EReal := fun k o i j => m ((c.tc : Thread nD τ).loc main_arg5) (ix4 k o i j : S128x3x4x4.Idx)
def b3 : Fin 3 → EReal := fun o => m ((c.tc : Thread nD τ).loc main_arg6) (ix1 o : S3.Idx)

/-- The two hidden layers, of the arguments. -/
def h1 : Img 128 56 56 := hid1 (q m c) (w1 m c) (b1 m c)
def h2 : Img 128 112 112 := hid2 (h1 m c) (w2 m c) (b2 m c)

/-! ## The first call -/

theorem x0 (u : Fin 3) (n : Fin 4) (r : Fin 58) (s : Fin 56) (k : Fin 64) :
    R0.views (V3 m ρ) c u (ix4 n r s k) = ext (q m c n k) ((r : ℕ) - 1) ((s : ℕ) + (u : ℕ) - 1) := by
  have e : ∀ s' : Fin 58, W2 m ρ c main_v4 (ix4 n r s' k : S4x58x58x64.Idx) = ext (q m c n k) ((r : ℕ) - 1) ((s' : ℕ) - 1) := fun s' =>
    (v4_at (W1 m ρ c) n r s' k (c0 (W0 m ρ c))).trans
      (congrArg (fun f => ext f ((r : ℕ) - 1) ((s' : ℕ) - 1)) (funext fun i => funext fun j => v0_at (W0 m ρ c) n i j k))
  obtain ⟨e0, e1, e2⟩ := x0_at (W2 m ρ c) n r s k
  obtain rfl | rfl | rfl : u = 0 ∨ u = 1 ∨ u = 2 := by omega
  · exact e0.trans ((e _).trans (congrArg _ (by simp)))
  · exact e1.trans ((e _).trans (congrArg _ (by simp)))
  · exact e2.trans ((e _).trans (congrArg _ (by simp)))

theorem wt0 (s u : Fin 3) (k : Fin 64) (o : Fin 128) :
    V3 m ρ c main_v3 (ix3 ⟨3 * s.val + u.val, by omega⟩ k o : S9x64x128.Idx) = turn (w1 m c) o k s u :=
  (congrFun ((W3_of m ρ c main_v3 (by decide)).trans (W2_of m ρ c main_v3 (by decide))) _).trans (v3_at (W0 m ρ c) s u k o)

theorem bias0 (o : Fin 128) : V3 m ρ c main_v10 (ix2 0 o : S1x128.Idx) = b1 m c o :=
  (v10_at (W2 m ρ c) o).trans (congrFun (W2_args m ρ c main_arg2 (by decide)) _)

theorem layer1 (n : Fin 4) (i j : Fin 56) (o : Fin 128) :
    W5 m ρ c main_v13 (ix4 n i j o : S4x56x56x128.Idx) = h1 m c n o i j := by
  refine (v13_at (W4 m ρ c) n i j o).trans ((congrFun ((W4_arr m ρ c 7).trans (R0.final (V3 m ρ) c)) _).trans ?_)
  have t (s u : Fin 3) : R0.tap (R0.views (V3 m ρ) c) (V3 m ρ c main_v3) s u n ⟨i.val * 56 + j.val, by omega⟩ o
      = ∑ k, ext (q m c n k) ((i : ℕ) + (s : ℕ) - 1) ((j : ℕ) + (u : ℕ) - 1) * turn (w1 m c) o k s u :=
    Finset.sum_congr rfl fun k _ => by
      rw [x0, wt0]
      congr 2 <;> dsimp only <;> omega
  show R0.out (V3 m ρ c main_v3) (V3 m ρ c main_v10) (R0.views (V3 m ρ) c) n ⟨i.val * 56 + j.val, by omega⟩ o = _
  unfold R0.out
  rw [t 0 0, t 0 1, t 0 2, t 1 0, t 1 1, t 1 2, t 2 0, t 2 1, t 2 2, bias0]
  rfl

/-! ## The second call -/

theorem x1 (u : Fin 3) (n : Fin 4) (r : Fin 58) (s : Fin 56) (k : Fin 128) :
    R1.views (V7 m ρ) c u (ix4 n r s k) = ext (h1 m c n k) ((r : ℕ) - 1) ((s : ℕ) + (u : ℕ) - 1) := by
  have e : ∀ s' : Fin 58, W6 m ρ c main_v14 (ix4 n r s' k : S4x58x58x128.Idx) = ext (h1 m c n k) ((r : ℕ) - 1) ((s' : ℕ) - 1) := fun s' =>
    (v14_at (W5 m ρ c) n r s' k (c1 (W4 m ρ c))).trans
      (congrArg (fun f => ext f ((r : ℕ) - 1) ((s' : ℕ) - 1)) (funext fun i => funext fun j => layer1 m ρ c n i j k))
  obtain ⟨e0, e1, e2⟩ := x1_at (W6 m ρ c) n r s k
  obtain rfl | rfl | rfl : u = 0 ∨ u = 1 ∨ u = 2 := by omega
  · exact e0.trans ((e _).trans (congrArg _ (by simp)))
  · exact e1.trans ((e _).trans (congrArg _ (by simp)))
  · exact e2.trans ((e _).trans (congrArg _ (by simp)))

theorem wt1 (t : Fin 16) (k o : Fin 128) : V7 m ρ c main_v66 (ix3 t k o : S16x128x128.Idx)
    = w2 m c k o ⟨2 * (t.val / 2 % 2) + 1 - t.val / 8, by omega⟩ ⟨2 * (t.val % 2) + 1 - t.val / 4 % 2, by omega⟩ :=
  (v66_at (W6 m ρ c) t k o).trans (congrFun (W6_args m ρ c main_arg3 (by decide)) _)

theorem bias1 (o : Fin 128) : V7 m ρ c main_v67 (ix2 0 o : S1x128.Idx) = b2 m c o :=
  (v67_at (W6 m ρ c) o).trans (congrFun (W6_args m ρ c main_arg4 (by decide)) _)

theorem layer2 (n : Fin 4) (i j : Fin 112) (o : Fin 128) :
    W9 m ρ c main_v71 (ix4 n i j o : S4x112x112x128.Idx) = h2 m c n o i j := by
  refine (v71_at (W8 m ρ c) n i j o).trans ((congrFun ((W8_arr m ρ c 5).trans (R1.final (V7 m ρ) c)) _).trans ?_)
  refine (R1.REF_at _ _ _ n _ _ ⟨2 * (i.val % 2) + j.val % 2, by omega⟩ o (by dsimp only; omega)).trans ?_
  have t (a b : Fin 2) : R1.tap (R1.views (V7 m ρ) c) (V7 m ρ c main_v66) ⟨2 * (i.val % 2) + j.val % 2, by omega⟩ a b n
        ⟨i.val / 2 * 56 + j.val / 2, by omega⟩ o
      = tapT (h1 m c n) (fun k => w2 m c k o) i j a b :=
    Finset.sum_congr rfl fun k _ => by
      rw [x1, wt1]
      congr 2
      all_goals first | (dsimp only; omega) | exact Fin.ext (by dsimp only; omega)
  unfold R1.out
  rw [t 0 0, t 0 1, t 1 0, t 1 1, bias1]
  rfl

/-! ## The third call -/

theorem x2 (u : Fin 3) (n : Fin 4) (r : Fin 114) (s : Fin 112) (k : Fin 128) :
    R2.views (V11 m ρ) c u (ix4 n r s k) = ext (h2 m c n k) ((r : ℕ) - 1) ((s : ℕ) + (u : ℕ) - 1) := by
  have e : ∀ s' : Fin 114, W10 m ρ c main_v72 (ix4 n r s' k : S4x114x114x128.Idx) = ext (h2 m c n k) ((r : ℕ) - 1) ((s' : ℕ) - 1) := fun s' =>
    (v72_at (W9 m ρ c) n r s' k (c2 (W8 m ρ c))).trans
      (congrArg (fun f => ext f ((r : ℕ) - 1) ((s' : ℕ) - 1)) (funext fun i => funext fun j => layer2 m ρ c n i j k))
  obtain ⟨e0, e1, e2⟩ := x2_at (W10 m ρ c) n r s k
  obtain rfl | rfl | rfl : u = 0 ∨ u = 1 ∨ u = 2 := by omega
  · exact e0.trans ((e _).trans (congrArg _ (by simp)))
  · exact e1.trans ((e _).trans (congrArg _ (by simp)))
  · exact e2.trans ((e _).trans (congrArg _ (by simp)))

theorem wt2 (s u : Fin 3) (p : Fin 4) (o : Fin 3) (k : Fin 128) :
    V11 m ρ c main_v149 (ix3 ⟨3 * s.val + u.val, by omega⟩ k ⟨p.val * 3 + o.val, by omega⟩ : S9x128x12.Idx)
      = if p.val / 2 ≤ s.val ∧ s.val ≤ p.val / 2 + 1 ∧ p.val % 2 ≤ u.val ∧ u.val ≤ p.val % 2 + 1 then
          w3 m c k o ⟨(2 * (p.val / 2 + 1 - s.val) + 1 - p.val / 2) % 4, by omega⟩
            ⟨(2 * (p.val % 2 + 1 - u.val) + 1 - p.val % 2) % 4, by omega⟩
        else 0 := by
  refine (v149_at (W10 m ρ c) s u p o k).trans ?_
  rw [W10_args m ρ c main_arg5 (by decide)]
  rfl

theorem bias2 (p : Fin 4) (o : Fin 3) : V11 m ρ c main_v153 (ix2 0 ⟨p.val * 3 + o.val, by omega⟩ : S1x12.Idx) = b3 m c o :=
  (v153_at (W10 m ρ c) p o).trans (congrFun (W10_args m ρ c main_arg6 (by decide)) _)

theorem out2 (p : Fin 4) (n : Fin 4) (o : Fin 3) (i j : Fin 224) (hi : p.val / 2 = i.val % 2) (hj : p.val % 2 = j.val % 2) :
    R2.out (V11 m ρ c main_v149) (V11 m ρ c main_v153) (R2.views (V11 m ρ) c) n ⟨i.val / 2 * 112 + j.val / 2, by omega⟩
        ⟨p.val * 3 + o.val, by omega⟩
      = image (h2 m c) (w3 m c) (b3 m c) n o i j := by
  have t (s u : Fin 3) : R2.tap (R2.views (V11 m ρ) c) (V11 m ρ c main_v149) s u n ⟨i.val / 2 * 112 + j.val / 2, by omega⟩
        ⟨p.val * 3 + o.val, by omega⟩
      = ∑ k, ext (h2 m c n k) ((i.val / 2 : ℕ) + (s : ℕ) - 1) ((j.val / 2 : ℕ) + (u : ℕ) - 1)
        * V11 m ρ c main_v149 (ix3 ⟨3 * s.val + u.val, by omega⟩ k ⟨p.val * 3 + o.val, by omega⟩ : S9x128x12.Idx) :=
    Finset.sum_congr rfl fun k _ => by
      rw [x2]
      congr 2 <;> dsimp only <;> omega
  have blocks := sum9_blocks (h2 m c n) (fun k => w3 m c k o) i j
    (fun s u k => V11 m ρ c main_v149 (ix3 ⟨3 * s.val + u.val, by omega⟩ k ⟨p.val * 3 + o.val, by omega⟩ : S9x128x12.Idx))
    (fun s u h k => by
      refine (wt2 m ρ c s u p o k).trans (if_neg ?_)
      rw [hi, hj]
      rcases Nat.mod_two_eq_zero_or_one i.val with e | e <;> rcases Nat.mod_two_eq_zero_or_one j.val with e' | e' <;>
        simp only [e, e'] at h ⊢ <;> rcases h with h | h <;> subst h <;> simp)
    (fun s u a b hs hu k => by
      refine (wt2 m ρ c s u p o k).trans ((if_pos ⟨by omega, by omega, by omega, by omega⟩).trans ?_)
      congr 1 <;> exact Fin.ext (by dsimp only; omega))
  unfold R2.out
  rw [t 0 0, t 0 1, t 0 2, t 1 0, t 1 1, t 1 2, t 2 0, t 2 1, t 2 2, bias2]
  exact congrArg (fun z => Ideal.logistic (z + b3 m c o)) blocks

theorem layer3 (n : Fin 4) (o : Fin 3) (i j : Fin 224) :
    W13 m ρ c main_v158 (ix4 n o i j : S4x3x224x224.Idx) = image (h2 m c) (w3 m c) (b3 m c) n o i j := by
  refine (v158_at (W12 m ρ c) n o i j).trans ((congrFun ((W12_arr m ρ c 5).trans (R2.final (V11 m ρ) c)) _).trans ?_)
  refine Eq.trans ?_ (out2 m ρ c ⟨2 * (i.val % 2) + j.val % 2, by omega⟩ n o i j (by dsimp only; omega) (by dsimp only; omega))
  show R2.out _ _ _ n _ _ = _
  congr 1
  refine Fin.ext ?_
  show i.val % 2 * 6 + j.val % 2 * 3 + o.val = (2 * (i.val % 2) + j.val % 2) * 3 + o.val
  omega

end Cert.DecoderIdeal.Value

end
-- ==== Proof.DecRef.lean ====
/- What the decoder's reference leaves in its result array: the same layers of Spec.lean, of its own arguments. -/
module

public import proofs.«01_k».proof.Proof.Gen.DecoderReferenceIdeal.Run
public import proofs.«01_k».proof.Proof.Spec
public import Idealize.ShloMosaic.Lib.Pointwise
public import Idealize.ShloMosaic.Lib.StableHlo.ReadAt

@[expose] public section

set_option maxRecDepth 16384

noncomputable section

namespace Cert.DecoderReferenceIdeal.Value

open Idealize.ShloMosaic Idealize.ShloMosaic.TcCoe Idealize.SL.Sem
open Cert.DecoderReferenceIdeal Cert.Spec

variable (V : Valuation τ sig (Elt Ideal))

/-- The arguments as functions of curried indices. -/
def q : Img 64 56 56 := fun n k i j => V ↑main_arg0 (ix4 n k i j : S4x64x56x56.Idx)
def w1 : Fin 64 → Fin 128 → Fin 3 → Fin 3 → EReal := fun k o i j => V ↑main_arg1 (ix4 k o i j : S64x128x3x3.Idx)
def b1 : Fin 128 → EReal := fun o => V ↑main_arg2 (ix1 o : S128.Idx)
def w2 : Fin 128 → Fin 128 → Fin 4 → Fin 4 → EReal := fun k o i j => V ↑main_arg3 (ix4 k o i j : S128x128x4x4.Idx)
def b2 : Fin 128 → EReal := fun o => V ↑main_arg4 (ix1 o : S128.Idx)
def w3 : Fin 128 → Fin 3 → Fin 4 → Fin 4 → EReal := fun k o i j => V ↑main_arg5 (ix4 k o i j : S128x3x4x4.Idx)
def b3 : Fin 3 → EReal := fun o => V ↑main_arg6 (ix1 o : S3.Idx)

/-- The two hidden layers, of the arguments. -/
def h1 : Img 128 56 56 := hid1 (q V) (w1 V) (b1 V)
def h2 : Img 128 112 112 := hid2 (h1 V) (w2 V) (b2 V)

/-- The two hidden layers' inputs with the zeros around and between their pixels, and the result's. -/
def p1 : Img 64 58 58 := fun n k i j => res_main_v126 V (ix4 n k i j : S4x64x58x58.Idx)
def p2 : Img 128 115 115 := fun n k i j => res_main_v159 V (ix4 n k i j : S4x128x115x115.Idx)
def p3 : Img 128 227 227 := fun n k i j => res_main_v213 V (ix4 n k i j : S4x128x227x227.Idx)

theorem pad1_at (x : FVec Ideal S4x64x56x56 .f32) (n : Fin 4) (k : Fin 64) (r s : Fin 58) :
    pad S4x64x58x58 ![0, 0, 1, 1] ![0, 0, 1, 1] ![0, 0, 0, 0] x (constant (F := Ideal) S_ .f32 0x00000000#32)
        Gen.pads_S4x64x56x56_S4x64x58x58_000_000_110_110 Gen.h_S_ (ix4 n k r s : S4x64x58x58.Idx)
      = ext (fun i j => x (ix4 n k i j : S4x64x56x56.Idx)) ((r : ℕ) - 1) ((s : ℕ) - 1) := by
  refine Eq.trans ?_ (pad_ext (fun i j => x (ix4 n k i j : S4x64x56x56.Idx)) r s)
  pointwise

theorem v126_at (n : Fin 4) (k : Fin 64) (r s : Fin 58) :
    res_main_v126 V (ix4 n k r s : S4x64x58x58.Idx) = ext (q V n k) ((r : ℕ) - 1) ((s : ℕ) - 1) :=
  pad1_at (V ↑main_arg0) n k r s

set_option maxHeartbeats 1000000 in
theorem v159_at (n : Fin 4) (k : Fin 128) (r s : Fin 115) :
    res_main_v159 V (ix4 n k r s : S4x128x115x115.Idx) = dil (h1 V n k) ((r : ℕ) - 2) ((s : ℕ) - 2) := by
  rw [← pad_dil]
  pointwise [res_main_v159, res_main_v0]
  refine dite_congr rfl (fun h => ?_) (fun _ => rfl)
  have t (ki kj : Fin 3) (a b : Fin 58) (ha : a.val = (r.val - 2) / 2 + ki.val) (hb : b.val = (s.val - 2) / 2 + kj.val) :
      ∑ x, w1 V x k (2 - ki) (2 - kj) * p1 V n x a b
        = ∑ x, ext (q V n x) (((r.val - 2) / 2 : ℕ) + (ki : ℕ) - 1) (((s.val - 2) / 2 : ℕ) + (kj : ℕ) - 1) * turn (w1 V) k x ki kj :=
    Finset.sum_congr rfl fun x _ => by
      rw [show p1 V n x a b = _ from v126_at V n x a b, mul_comm, ha, hb]
      push_cast
      rfl
  refine congrArg₂ (max : EReal → EReal → EReal) (congrArg₂ (· + · : EReal → EReal → EReal) (sum9_of
      (t 0 0 _ _ ?_ ?_) (t 0 1 _ _ ?_ ?_) (t 0 2 _ _ ?_ ?_)
      (t 1 0 _ _ ?_ ?_) (t 1 1 _ _ ?_ ?_) (t 1 2 _ _ ?_ ?_)
      (t 2 0 _ _ ?_ ?_) (t 2 1 _ _ ?_ ?_) (t 2 2 _ _ ?_ ?_)) rfl) rfl
  all_goals first | rfl | exact Nat.add_comm _ _

set_option maxHeartbeats 1000000 in
theorem v213_at (n : Fin 4) (k : Fin 128) (r s : Fin 227) :
    res_main_v213 V (ix4 n k r s : S4x128x227x227.Idx) = dil (h2 V n k) ((r : ℕ) - 2) ((s : ℕ) - 2) := by
  rw [← pad_dil]
  pointwise [res_main_v213, res_main_v188, res_main_v28]
  refine dite_congr rfl (fun h => ?_) (fun _ => rfl)
  have t (ki kj : Fin 4) (a b : Fin 115) (ha : a.val = (r.val - 2) / 2 + ki.val) (hb : b.val = (s.val - 2) / 2 + kj.val) :
      ∑ x, w2 V x k (3 - ki) (3 - kj) * p2 V n x a b
        = ∑ x, w2 V x k (3 - ki) (3 - kj) * dil (h1 V n x) (((r.val - 2) / 2 : ℕ) + (ki : ℕ) - 2) (((s.val - 2) / 2 : ℕ) + (kj : ℕ) - 2) :=
    Finset.sum_congr rfl fun x _ => by
      rw [show p2 V n x a b = _ from v159_at V n x a b, ha, hb]
      push_cast
      rfl
  refine congrArg₂ (max : EReal → EReal → EReal) (congrArg₂ (· + · : EReal → EReal → EReal) ((sum16_of
      (t 0 0 _ _ ?_ ?_) (t 0 1 _ _ ?_ ?_) (t 0 2 _ _ ?_ ?_) (t 0 3 _ _ ?_ ?_)
      (t 1 0 _ _ ?_ ?_) (t 1 1 _ _ ?_ ?_) (t 1 2 _ _ ?_ ?_) (t 1 3 _ _ ?_ ?_)
      (t 2 0 _ _ ?_ ?_) (t 2 1 _ _ ?_ ?_) (t 2 2 _ _ ?_ ?_) (t 2 3 _ _ ?_ ?_)
      (t 3 0 _ _ ?_ ?_) (t 3 1 _ _ ?_ ?_) (t 3 2 _ _ ?_ ?_) (t 3 3 _ _ ?_ ?_)).trans (sum16_dil (h1 V n) (fun x => w2 V x k) _ _)) rfl) rfl
  all_goals first | rfl | exact Nat.add_comm _ _

/-- The result array. -/
def out : FVec Ideal S4x3x224x224 .f32 := fun x => image (h2 V) (w3 V) (b3 V) (x 0) (x 1) (x 2) (x 3)

set_option maxHeartbeats 1000000 in
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v270) = out (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (run m ρ)
  generalize StableHlo.launchContents m c = V
  refine funext fun x => ?_
  obtain ⟨n, o, i, j, rfl⟩ : ∃ (n : Fin 4) (o : Fin 3) (i j : Fin 224), x = (ix4 n o i j : S4x3x224x224.Idx) := ⟨_, _, _, _, eq_ix4 x⟩
  show _ = image (h2 V) (w3 V) (b3 V) n o i j
  pointwise [res_main_v245, res_main_v77]
  have t (ki kj : Fin 4) (a b : Fin 227) (ha : a.val = i.val + ki.val) (hb : b.val = j.val + kj.val) :
      ∑ x, w3 V x o (3 - ki) (3 - kj) * p3 V n x a b
        = ∑ x, w3 V x o (3 - ki) (3 - kj) * dil (h2 V n x) ((i.val : ℤ) + (ki : ℕ) - 2) ((j.val : ℤ) + (kj : ℕ) - 2) :=
    Finset.sum_congr rfl fun x _ => by
      rw [show p3 V n x a b = _ from v213_at V n x a b, ha, hb]
      push_cast
      rfl
  refine congrArg Idealize.ShloMosaic.Ideal.logistic (congrArg₂ (· + · : EReal → EReal → EReal) ((sum16_of
      (t 0 0 _ _ ?_ ?_) (t 0 1 _ _ ?_ ?_) (t 0 2 _ _ ?_ ?_) (t 0 3 _ _ ?_ ?_)
      (t 1 0 _ _ ?_ ?_) (t 1 1 _ _ ?_ ?_) (t 1 2 _ _ ?_ ?_) (t 1 3 _ _ ?_ ?_)
      (t 2 0 _ _ ?_ ?_) (t 2 1 _ _ ?_ ?_) (t 2 2 _ _ ?_ ?_) (t 2 3 _ _ ?_ ?_)
      (t 3 0 _ _ ?_ ?_) (t 3 1 _ _ ?_ ?_) (t 3 2 _ _ ?_ ?_) (t 3 3 _ _ ?_ ?_)).trans (sum16_dil (h2 V n) (fun x => w3 V x o) _ _)) rfl)
  all_goals first | rfl | exact Nat.add_comm _ _

end Cert.DecoderReferenceIdeal.Value

end
-- ==== Proof.EncRun.lean ====
/- The encoder's run with its result: the result array is left as the last boundary's contents say, and the arguments as
   launched. -/
module

public import proofs.«01_k».proof.Proof.Gen.EncoderIdeal.Frame

@[expose] public section

set_option maxRecDepth 16384

noncomputable section

namespace Cert.EncoderIdeal.Value

open Idealize.ShloMosaic Idealize.ShloMosaic.TcCoe Idealize.ShloMosaic.Tactic
open Cert.EncoderIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at the fold's last contents and the arguments unchanged. -/
theorem run : θ_run defs (onTc (τ := τ) (main (F := F))) ⟨m, fun _ => 0, ρ⟩ (fun r => ∀ c : Dev nD,
      r.2.mem ((c.tc : Thread nD τ).loc main_v60) = W13 m ρ c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => (fun c =>
      ⟨h c _ (mem_uc main_v60 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩))

end Cert.EncoderIdeal.Value

end
-- ==== Proof.Enc0.lean ====
/- The encoder's first call (one product over the forty-eight gathered pixels): the array it leaves, element by element. -/
module

public import proofs.«01_k».proof.Proof.Gen.EncoderIdeal.Frame
public import Idealize.ShloMosaic.Lib.Pipeline.ValueKit
public import Idealize.ShloMosaic.Lib.Pointwise

@[expose] public section

set_option maxRecDepth 16384

noncomputable section

namespace Cert.EncoderIdeal.R0

open Idealize.ShloMosaic Idealize.ShloMosaic.TcCoe Idealize.SL.Sem
open Idealize.ShloMosaic.Pipeline (Dat)
open Cert.EncoderIdeal Cert.EncoderIdeal.Gen

variable (V : (c : Dev nD) → (b : Ref sig .tc) → b.ty.Contents (Elt Ideal))

/-- What the call computes. -/
def out (x : FVec Ideal S50176x48 .f32) (W : FVec Ideal S48x128 .f32) (b : FVec Ideal S1x128 .f32)
    (p : Fin 50176) (o : Fin 128) : EReal :=
  max (∑ k : Fin 48, x (ix2 p k) * W (ix2 k o) + b (ix2 0 o)) 0

/-- The call's array as a whole. -/
def REF (x : FVec Ideal S50176x48 .f32) (W : FVec Ideal S48x128 .f32) (b : FVec Ideal S1x128 .f32) :
    FVec Ideal S50176x128 .f32 := fun j => out x W b (j 0) (j 1)

theorem idx : ∀ t : Fin cfg0.N, win0_0.index t = ![t.val, 0] ∧ win0_1.index t = ![0, 0] ∧ win0_2.index t = ![0, 0]
    ∧ win0_3.index t = ![t.val, 0] ∧ t.val < 16 :=
  (by decide +kernel : ∀ t : Fin grid0.N, _)

theorem lt (t : Fin cfg0.N) : t.val < 16 := (idx t).2.2.2.2

theorem blk0 (c : Dev nD) (t : Fin cfg0.N) (p : Fin 3136) (k : Fin 48) :
    (iblk0 V c 0 t : FVec Ideal S3136x48 .f32) (ix2 p k)
      = V c main_v19 (ix2 ⟨3136 * t.val + p.val, by have := lt t; omega⟩ k : S50176x48.Idx) := by
  blk_point [iblk0, idx t]

theorem blk1 (c : Dev nD) (t : Fin cfg0.N) (k : Fin 48) (o : Fin 128) :
    (iblk0 V c 1 t : FVec Ideal S48x128 .f32) (ix2 k o) = V c main_v21 (ix2 k o) := by
  blk_point [iblk0, idx t]

theorem blk2 (c : Dev nD) (t : Fin cfg0.N) (z : Fin 1) (o : Fin 128) :
    (iblk0 V c 2 t : FVec Ideal S1x128 .f32) (ix2 z o) = V c main_v22 (ix2 z o) := by
  blk_point [iblk0, idx t]

theorem emb3 (t : Fin cfg0.N) (p : Fin 3136) (o : Fin 128) :
    (((cfg0.win 3).blk t).view.emb (ix2 p o) : S50176x128.Idx)
      = ix2 ⟨3136 * t.val + p.val, by have := lt t; omega⟩ o := by
  blk_ext [idx t]

set_option maxHeartbeats 2000000 in
/-- The region leaves the layer's output in its result array. -/
theorem final (c : Dev nD) : (dat0 V c).arrAt 3 cfg0.N
    = REF (V c main_v19) (V c main_v21) (V c main_v22) := by
  refine (dat0 V c).arrAt_eq_of_covers 3 _ (by decide +kernel) fun t _ y => ?_
  blk_simp
  rw [after0_3]
  unfold out0_3
  frame_out
  have hy : ∃ (p : Fin 3136) (o : Fin 128), y = (ix2 p o : S3136x128.Idx) :=
    ⟨y 0, y 1, eq_ix2 (n0 := 3136) (n1 := 128) y⟩
  obtain ⟨p, o, rfl⟩ := hy
  refine Eq.trans ?_ (congrArg (REF _ _ _) (emb3 t p o)).symm
  pointwise [k0_pay1, REF, out]
  simp only [Matrix.cons_val, blk0, blk1, blk2, zero_add]

end Cert.EncoderIdeal.R0

end
-- ==== Proof.Enc1.lean ====
/- The encoder's second call (a 4 × 4 convolution of stride two over eight views of the padded image): the array it leaves,
   element by element. -/
module

public import proofs.«01_k».proof.Proof.Gen.EncoderIdeal.Frame
public import Idealize.ShloMosaic.Lib.Pipeline.ValueKit
public import Idealize.ShloMosaic.Lib.Pointwise

@[expose] public section

set_option maxRecDepth 16384

noncomputable section

namespace Cert.EncoderIdeal.R1

open Idealize.ShloMosaic Idealize.ShloMosaic.TcCoe Idealize.SL.Sem
open Idealize.ShloMosaic.Pipeline (Dat)
open Cert.EncoderIdeal Cert.EncoderIdeal.Gen

variable (V : (c : Dev nD) → (b : Ref sig .tc) → b.ty.Contents (Elt Ideal))

/-- The product of one tap: row `ki`, column `kj`, each with its own view. -/
def tap (x : Fin 4 → Fin 4 → FVec Ideal S4x57x56x128 .f32) (W : FVec Ideal S16x128x128 .f32) (ki kj : Fin 4)
    (n : Fin 4) (p : Fin 3136) (o : Fin 128) : EReal :=
  ∑ k : Fin 128, x ki kj (ix4 n ⟨p.val / 56 + ki.val / 2, by omega⟩ ⟨p.val % 56, by omega⟩ k)
    * W (ix3 ⟨4 * ki.val + kj.val, by omega⟩ k o)

/-- What the call computes. -/
def out (W : FVec Ideal S16x128x128 .f32) (b : FVec Ideal S1x128 .f32) (x : Fin 4 → Fin 4 → FVec Ideal S4x57x56x128 .f32)
    (n : Fin 4) (p : Fin 3136) (o : Fin 128) : EReal :=
  max (tap x W 0 0 n p o + tap x W 0 1 n p o + tap x W 0 2 n p o + tap x W 0 3 n p o
    + tap x W 1 0 n p o + tap x W 1 1 n p o + tap x W 1 2 n p o + tap x W 1 3 n p o
    + tap x W 2 0 n p o + tap x W 2 1 n p o + tap x W 2 2 n p o + tap x W 2 3 n p o
    + tap x W 3 0 n p o + tap x W 3 1 n p o + tap x W 3 2 n p o + tap x W 3 3 n p o + b (ix2 0 o)) 0

/-- The call's array as a whole. -/
def REF (W : FVec Ideal S16x128x128 .f32) (b : FVec Ideal S1x128 .f32) (x : Fin 4 → Fin 4 → FVec Ideal S4x57x56x128 .f32) :
    FVec Ideal S4x3136x128 .f32 := fun j => out W b x (j 0) (j 1) (j 2)

theorem idx : ∀ t : Fin cfg1.N, win1_0.index t = ![0, 0, 0] ∧ win1_1.index t = ![0, 0]
    ∧ win1_2.index t = ![t.val / 7, 0, 0, 0] ∧ win1_3.index t = ![t.val / 7, 0, 0, 0] ∧ win1_4.index t = ![t.val / 7, 0, 0, 0]
    ∧ win1_5.index t = ![t.val / 7, 0, 0, 0] ∧ win1_6.index t = ![t.val / 7, 0, 0, 0] ∧ win1_7.index t = ![t.val / 7, 0, 0, 0]
    ∧ win1_8.index t = ![t.val / 7, 0, 0, 0] ∧ win1_9.index t = ![t.val / 7, 0, 0, 0]
    ∧ win1_10.index t = ![t.val / 7, t.val % 7, 0] ∧ (grid1.coords t 1).val = t.val % 7 ∧ t.val / 7 < 4 :=
  (by decide +kernel : ∀ t : Fin grid1.N, _)

theorem lt (t : Fin cfg1.N) : t.val / 7 < 4 := (idx t).2.2.2.2.2.2.2.2.2.2.2.2

theorem blk0 (c : Dev nD) (t : Fin cfg1.N) (u : Fin 16) (k o : Fin 128) :
    (iblk1 V c 0 t : FVec Ideal S16x128x128 .f32) (ix3 u k o) = V c main_v44 (ix3 u k o) := by
  blk_point [iblk1, idx t]

theorem blk1 (c : Dev nD) (t : Fin cfg1.N) (z : Fin 1) (o : Fin 128) :
    (iblk1 V c 1 t : FVec Ideal S1x128 .f32) (ix2 z o) = V c main_v45 (ix2 z o) := by
  blk_point [iblk1, idx t]

theorem blk2 (c : Dev nD) (t : Fin cfg1.N) (z : Fin 1) (r : Fin 57) (s : Fin 56) (k : Fin 128) :
    (iblk1 V c 2 t : FVec Ideal S1x57x56x128 .f32) (ix4 z r s k) = V c main_v32 (ix4 ⟨t.val / 7, lt t⟩ r s k) := by
  blk_point [iblk1, idx t]

theorem blk3 (c : Dev nD) (t : Fin cfg1.N) (z : Fin 1) (r : Fin 57) (s : Fin 56) (k : Fin 128) :
    (iblk1 V c 3 t : FVec Ideal S1x57x56x128 .f32) (ix4 z r s k) = V c main_v33 (ix4 ⟨t.val / 7, lt t⟩ r s k) := by
  blk_point [iblk1, idx t]

theorem blk4 (c : Dev nD) (t : Fin cfg1.N) (z : Fin 1) (r : Fin 57) (s : Fin 56) (k : Fin 128) :
    (iblk1 V c 4 t : FVec Ideal S1x57x56x128 .f32) (ix4 z r s k) = V c main_v34 (ix4 ⟨t.val / 7, lt t⟩ r s k) := by
  blk_point [iblk1, idx t]

theorem blk5 (c : Dev nD) (t : Fin cfg1.N) (z : Fin 1) (r : Fin 57) (s : Fin 56) (k : Fin 128) :
    (iblk1 V c 5 t : FVec Ideal S1x57x56x128 .f32) (ix4 z r s k) = V c main_v35 (ix4 ⟨t.val / 7, lt t⟩ r s k) := by
  blk_point [iblk1, idx t]

theorem blk6 (c : Dev nD) (t : Fin cfg1.N) (z : Fin 1) (r : Fin 57) (s : Fin 56) (k : Fin 128) :
    (iblk1 V c 6 t : FVec Ideal S1x57x56x128 .f32) (ix4 z r s k) = V c main_v39 (ix4 ⟨t.val / 7, lt t⟩ r s k) := by
  blk_point [iblk1, idx t]

theorem blk7 (c : Dev nD) (t : Fin cfg1.N) (z : Fin 1) (r : Fin 57) (s : Fin 56) (k : Fin 128) :
    (iblk1 V c 7 t : FVec Ideal S1x57x56x128 .f32) (ix4 z r s k) = V c main_v40 (ix4 ⟨t.val / 7, lt t⟩ r s k) := by
  blk_point [iblk1, idx t]

theorem blk8 (c : Dev nD) (t : Fin cfg1.N) (z : Fin 1) (r : Fin 57) (s : Fin 56) (k : Fin 128) :
    (iblk1 V c 8 t : FVec Ideal S1x57x56x128 .f32) (ix4 z r s k) = V c main_v41 (ix4 ⟨t.val / 7, lt t⟩ r s k) := by
  blk_point [iblk1, idx t]

theorem blk9 (c : Dev nD) (t : Fin cfg1.N) (z : Fin 1) (r : Fin 57) (s : Fin 56) (k : Fin 128) :
    (iblk1 V c 9 t : FVec Ideal S1x57x56x128 .f32) (ix4 z r s k) = V c main_v42 (ix4 ⟨t.val / 7, lt t⟩ r s k) := by
  blk_point [iblk1, idx t]

theorem emb10 (t : Fin cfg1.N) (z : Fin 1) (p : Fin 448) (o : Fin 128) :
    (((cfg1.win 10).blk t).view.emb (ix3 z p o) : S4x3136x128.Idx)
      = ix3 ⟨t.val / 7, lt t⟩ ⟨448 * (t.val % 7) + p, by omega⟩ o := by
  blk_ext [idx t]

theorem off (t : Fin cfg1.N) : k1_off1 (grid1.coords t) 0#32 = ![0, 8 * (t.val % 7), 0, 0]
    ∧ k1_off1 (grid1.coords t) 1#32 = ![0, 8 * (t.val % 7) + 1, 0, 0] := by
  have h := Gen.k1_off1_eq (grid1.coords t)
  rw [(idx t).2.2.2.2.2.2.2.2.2.2.2.1] at h
  exact ⟨h 0, h 1⟩

/-- The view each tap reads: rows of one parity, columns of one parity. -/
def rowA (c : Dev nD) : Fin 4 → FVec Ideal S4x57x56x128 .f32
  | 0 => V c main_v41
  | 1 => V c main_v39
  | 2 => V c main_v42
  | 3 => V c main_v40

def rowB (c : Dev nD) : Fin 4 → FVec Ideal S4x57x56x128 .f32
  | 0 => V c main_v34
  | 1 => V c main_v32
  | 2 => V c main_v35
  | 3 => V c main_v33

def views (c : Dev nD) : Fin 4 → Fin 4 → FVec Ideal S4x57x56x128 .f32
  | 0 => rowA V c
  | 1 => rowB V c
  | 2 => rowA V c
  | 3 => rowB V c

set_option maxHeartbeats 4000000 in
/-- The region leaves the layer's output in its result array. -/
theorem final (c : Dev nD) : (dat1 V c).arrAt 10 cfg1.N
    = REF (V c main_v44) (V c main_v45) (views V c) := by
  refine (dat1 V c).arrAt_eq_of_covers 10 _ (by decide +kernel) fun t _ y => ?_
  blk_simp
  rw [after1_10]
  unfold outsAt1
  frame_out
  have hy : ∃ (z : Fin 1) (p : Fin 448) (o : Fin 128), y = (ix3 z p o : S1x448x128.Idx) :=
    ⟨y 0, y 1, y 2, eq_ix3 (n0 := 1) (n1 := 448) (n2 := 128) y⟩
  obtain ⟨z, p, o, rfl⟩ := hy
  refine Eq.trans ?_ (congrArg (REF _ _ _) (emb10 t z p o)).symm
  pointwise [k1_pay1, k1_pay2, k1_pay3, k1_pay4, k1_pay5, k1_pay6, k1_pay7, k1_pay8, REF, out, tap, views, rowA, rowB]
  obtain ⟨o0, o1⟩ := off t
  simp only [o0, o1, Matrix.cons_val, blk0, blk1, blk2, blk3, blk4, blk5, blk6, blk7, blk8, blk9, zero_add]
  have h1 : (448 * (t.val % 7) + p.val) / 56 = 8 * (t.val % 7) + p.val / 56 := by omega
  have h2 : (448 * (t.val % 7) + p.val) % 56 = p.val % 56 := by omega
  simp only [h1, h2, Nat.add_right_comm (8 * (t.val % 7))]

end Cert.EncoderIdeal.R1

end
-- ==== Proof.Enc2.lean ====
/- The encoder's third call (a 3 × 3 convolution over three shifted views of the padded image, then a product with the
   projection): the array it leaves, element by element. -/
module

public import proofs.«01_k».proof.Proof.Gen.EncoderIdeal.Frame
public import Idealize.ShloMosaic.Lib.Pipeline.ValueKit
public import Idealize.ShloMosaic.Lib.Pointwise

@[expose] public section

set_option maxRecDepth 16384

noncomputable section

namespace Cert.EncoderIdeal.R2

open Idealize.ShloMosaic Idealize.ShloMosaic.TcCoe Idealize.SL.Sem
open Idealize.ShloMosaic.Pipeline (Dat)
open Cert.EncoderIdeal Cert.EncoderIdeal.Gen

variable (V : (c : Dev nD) → (b : Ref sig .tc) → b.ty.Contents (Elt Ideal))

/-- The product of one tap: row `s`, column `u`. -/
def tap (x : Fin 3 → FVec Ideal S4x58x56x128 .f32) (W : FVec Ideal S9x128x128 .f32) (s u : Fin 3)
    (n : Fin 4) (p : Fin 3136) (o : Fin 128) : EReal :=
  ∑ k : Fin 128, x u (ix4 n ⟨p.val / 56 + s.val, by omega⟩ ⟨p.val % 56, by omega⟩ k)
    * W (ix3 ⟨3 * s.val + u.val, by omega⟩ k o)

/-- The convolution before the projection. -/
def mid (W : FVec Ideal S9x128x128 .f32) (b : FVec Ideal S1x128 .f32) (x : Fin 3 → FVec Ideal S4x58x56x128 .f32)
    (n : Fin 4) (p : Fin 3136) (o : Fin 128) : EReal :=
  tap x W 0 0 n p o + tap x W 0 1 n p o + tap x W 0 2 n p o
    + tap x W 1 0 n p o + tap x W 1 1 n p o + tap x W 1 2 n p o
    + tap x W 2 0 n p o + tap x W 2 1 n p o + tap x W 2 2 n p o + b (ix2 0 o)

/-- What the call computes. -/
def out (W : FVec Ideal S9x128x128 .f32) (b : FVec Ideal S1x128 .f32) (P : FVec Ideal S128x64 .f32) (bp : FVec Ideal S1x64 .f32)
    (x : Fin 3 → FVec Ideal S4x58x56x128 .f32) (n : Fin 4) (p : Fin 3136) (o : Fin 64) : EReal :=
  ∑ k : Fin 128, mid W b x n p k * P (ix2 k o) + bp (ix2 0 o)

/-- The call's array as a whole. -/
def REF (W : FVec Ideal S9x128x128 .f32) (b : FVec Ideal S1x128 .f32) (P : FVec Ideal S128x64 .f32) (bp : FVec Ideal S1x64 .f32)
    (x : Fin 3 → FVec Ideal S4x58x56x128 .f32) : FVec Ideal S4x3136x64 .f32 := fun j => out W b P bp x (j 0) (j 1) (j 2)

theorem idx : ∀ t : Fin cfg2.N, win2_0.index t = ![0, 0, 0] ∧ win2_1.index t = ![0, 0] ∧ win2_2.index t = ![0, 0]
    ∧ win2_3.index t = ![0, 0]
    ∧ win2_4.index t = ![t.val / 7, 0, 0, 0] ∧ win2_5.index t = ![t.val / 7, 0, 0, 0] ∧ win2_6.index t = ![t.val / 7, 0, 0, 0]
    ∧ win2_7.index t = ![t.val / 7, t.val % 7, 0] ∧ (grid2.coords t 1).val = t.val % 7 ∧ t.val / 7 < 4 :=
  (by decide +kernel : ∀ t : Fin grid2.N, _)

theorem lt (t : Fin cfg2.N) : t.val / 7 < 4 := (idx t).2.2.2.2.2.2.2.2.2

theorem blk0 (c : Dev nD) (t : Fin cfg2.N) (u : Fin 9) (k o : Fin 128) :
    (iblk2 V c 0 t : FVec Ideal S9x128x128 .f32) (ix3 u k o) = V c main_v48 (ix3 u k o) := by
  blk_point [iblk2, idx t]

theorem blk1 (c : Dev nD) (t : Fin cfg2.N) (z : Fin 1) (o : Fin 128) :
    (iblk2 V c 1 t : FVec Ideal S1x128 .f32) (ix2 z o) = V c main_v56 (ix2 z o) := by
  blk_point [iblk2, idx t]

theorem blk2 (c : Dev nD) (t : Fin cfg2.N) (k : Fin 128) (o : Fin 64) :
    (iblk2 V c 2 t : FVec Ideal S128x64 .f32) (ix2 k o) = V c main_v50 (ix2 k o) := by
  blk_point [iblk2, idx t]

theorem blk3 (c : Dev nD) (t : Fin cfg2.N) (z : Fin 1) (o : Fin 64) :
    (iblk2 V c 3 t : FVec Ideal S1x64 .f32) (ix2 z o) = V c main_v57 (ix2 z o) := by
  blk_point [iblk2, idx t]

theorem blk4 (c : Dev nD) (t : Fin cfg2.N) (z : Fin 1) (r : Fin 58) (s : Fin 56) (k : Fin 128) :
    (iblk2 V c 4 t : FVec Ideal S1x58x56x128 .f32) (ix4 z r s k) = V c main_v53 (ix4 ⟨t.val / 7, lt t⟩ r s k) := by
  blk_point [iblk2, idx t]

theorem blk5 (c : Dev nD) (t : Fin cfg2.N) (z : Fin 1) (r : Fin 58) (s : Fin 56) (k : Fin 128) :
    (iblk2 V c 5 t : FVec Ideal S1x58x56x128 .f32) (ix4 z r s k) = V c main_v54 (ix4 ⟨t.val / 7, lt t⟩ r s k) := by
  blk_point [iblk2, idx t]

theorem blk6 (c : Dev nD) (t : Fin cfg2.N) (z : Fin 1) (r : Fin 58) (s : Fin 56) (k : Fin 128) :
    (iblk2 V c 6 t : FVec Ideal S1x58x56x128 .f32) (ix4 z r s k) = V c main_v55 (ix4 ⟨t.val / 7, lt t⟩ r s k) := by
  blk_point [iblk2, idx t]

theorem emb7 (t : Fin cfg2.N) (z : Fin 1) (p : Fin 448) (o : Fin 64) :
    (((cfg2.win 7).blk t).view.emb (ix3 z p o) : S4x3136x64.Idx)
      = ix3 ⟨t.val / 7, lt t⟩ ⟨448 * (t.val % 7) + p, by omega⟩ o := by
  blk_ext [idx t]

theorem off (t : Fin cfg2.N) : k2_off1 (grid2.coords t) 0#32 = ![0, 8 * (t.val % 7), 0, 0]
    ∧ k2_off1 (grid2.coords t) 1#32 = ![0, 8 * (t.val % 7) + 1, 0, 0]
    ∧ k2_off1 (grid2.coords t) 2#32 = ![0, 8 * (t.val % 7) + 2, 0, 0] := by
  have h := Gen.k2_off1_eq (grid2.coords t)
  rw [(idx t).2.2.2.2.2.2.2.2.1] at h
  exact ⟨h 0, h 1, h 2⟩

/-- The three views as one family. -/
def views (c : Dev nD) : Fin 3 → FVec Ideal S4x58x56x128 .f32
  | 0 => V c main_v53
  | 1 => V c main_v54
  | 2 => V c main_v55

set_option maxHeartbeats 2000000 in
/-- The region leaves the layer's output in its result array. -/
theorem final (c : Dev nD) : (dat2 V c).arrAt 7 cfg2.N
    = REF (V c main_v48) (V c main_v56) (V c main_v50) (V c main_v57) (views V c) := by
  refine (dat2 V c).arrAt_eq_of_covers 7 _ (by decide +kernel) fun t _ y => ?_
  blk_simp
  rw [after2_7]
  unfold outsAt2
  frame_out
  have hy : ∃ (z : Fin 1) (p : Fin 448) (o : Fin 64), y = (ix3 z p o : S1x448x64.Idx) :=
    ⟨y 0, y 1, y 2, eq_ix3 (n0 := 1) (n1 := 448) (n2 := 64) y⟩
  obtain ⟨z, p, o, rfl⟩ := hy
  refine Eq.trans ?_ (congrArg (REF _ _ _ _ _) (emb7 t z p o)).symm
  pointwise [k2_pay1, k2_pay2, k2_pay3, k2_pay4, REF, out, mid, tap, views]
  obtain ⟨o0, o1, o2⟩ := off t
  simp only [o0, o1, o2, Matrix.cons_val, blk0, blk1, blk2, blk3, blk4, blk5, blk6, zero_add]
  have h1 : (448 * (t.val % 7) + p.val) / 56 = 8 * (t.val % 7) + p.val / 56 := by omega
  have h2 : (448 * (t.val % 7) + p.val) % 56 = p.val % 56 := by omega
  simp only [h1, h2, Nat.add_right_comm (8 * (t.val % 7))]

end Cert.EncoderIdeal.R2

end
-- ==== Proof.EncHost.lean ====
/- The encoder's host operations between its calls, read element by element, at any contents of the buffers before them. -/
module

public import proofs.«01_k».proof.Proof.Gen.EncoderIdeal.Launch
public import proofs.«01_k».proof.Proof.Spec
public import Idealize.ShloMosaic.Lib.StableHlo.ReadAt
public import Idealize.ShloMosaic.Lib.Pointwise

@[expose] public section

set_option maxRecDepth 16384

noncomputable section

namespace Cert.EncoderIdeal.Host

open Idealize.ShloMosaic Idealize.ShloMosaic.TcCoe Idealize.SL.Sem
open Cert.EncoderIdeal Cert.EncoderIdeal.Gen Cert.Spec

variable (V : Valuation τ sig (Elt Ideal))

/-- A padding value converted from the integer zero. -/
theorem zero_of {c : IVec S_ 32} (h : c = constantI S_ 32 0#32) (i : S_.Idx) :
    (FloatOps.sitofp FTy.f32 (c i) : Ideal FTy.f32) = (0 : EReal) := by
  subst h
  show ((((0#32 : BitVec 32).toInt : ℝ) : EReal)) = 0
  simp

/-! ## Before the first call -/

theorem v0_at (n : Fin 4) (i j : Fin 224) (k : Fin 3) :
    StableHlo.after hostOps0 V ↑main_v0 (ix4 n i j k : S4x224x224x3.Idx) = V ↑main_arg0 (ix4 n k i j : S4x3x224x224.Idx) := by
  after_reads_at

theorem c0 : StableHlo.after hostOps0 V ↑main_c = constantI S_ 32 0#32 := by
  after_reads_simp

theorem v1_at (n : Fin 4) (r s : Fin 226) (k : Fin 3) (hc : V ↑main_c = constantI S_ 32 0#32) :
    StableHlo.after hostOps0_1 V ↑main_v1 (ix4 n r s k : S4x226x226x3.Idx)
      = ext (fun i j => V ↑main_v0 (ix4 n i j k : S4x224x224x3.Idx)) ((r : ℕ) - 1) ((s : ℕ) - 1) := by
  after_reads_at
  rw [zero_of hc]
  exact pad_ext (fun i j => V ↑main_v0 (ix4 n i j k : S4x224x224x3.Idx)) r s

/-- Sixteen pieces of three channels side by side, read at a piece. -/
theorem beside16 (f : Fin 16 → FVec Ideal S4x112x112x3 .f32) (n : Fin 4) (i j : Fin 112) (t : Fin 16) (k : Fin 3)
    (h : Shape.Concatenates ((List.ofFn fun n : Fin 16 => (⟨S4x112x112x3, f n⟩ : (s : Shape) × (s.Idx → Elt Ideal .f32))).map (·.1)) S4x112x112x48 3) :
    concatenate S4x112x112x48 3 (List.ofFn fun n : Fin 16 => (⟨S4x112x112x3, f n⟩ : (s : Shape) × (s.Idx → Elt Ideal .f32))) h
        (ix4 n i j ⟨t.val * 3 + k.val, by omega⟩)
      = f t (ix4 n i j k) := by
  refine concatenate_ofFn_apply 3 f h rfl 3 rfl _ t ?_ _ ?_ fun b hb => ?_
  · show (t.val * 3 + k.val) / 3 = t.val
    omega
  · show k.val = (t.val * 3 + k.val) % 3
    omega
  match b, hb with
  | 0, _ => rfl
  | 1, _ => rfl
  | 2, _ => rfl
  | 3, hb => exact absurd rfl hb

set_option backward.isDefEq.respectTransparency.types false in
set_option maxHeartbeats 2000000 in
theorem v18_at (n : Fin 4) (i j : Fin 112) (t : Fin 16) (k : Fin 3) :
    StableHlo.after hostOps0_2 V ↑main_v18 (ix4 n i j ⟨t.val * 3 + k.val, by omega⟩ : S4x112x112x48.Idx)
      = V ↑main_v1 (ix4 n ⟨2 * i.val + t.val / 4, by omega⟩ ⟨2 * j.val + t.val % 4, by omega⟩ k : S4x226x226x3.Idx) := by
  simp only [StableHlo.readAfter, StableHlo.nary_result']
  let W := StableHlo.upto hostOps0_2 V 16
  refine (beside16 ![W ↑main_v2, W ↑main_v3, W ↑main_v4, W ↑main_v5, W ↑main_v6, W ↑main_v7, W ↑main_v8, W ↑main_v9, W ↑main_v10, W ↑main_v11, W ↑main_v12, W ↑main_v13, W ↑main_v14, W ↑main_v15, W ↑main_v16, W ↑main_v17] n i j t k _).trans ?_
  fin_cases t
  all_goals
    simp only [W, Matrix.cons_val]
    after_reads_at
  all_goals first | rfl | (congr 2 <;> exact Fin.ext (by dsimp only; omega)) | (congr 1 <;> exact Fin.ext (by dsimp only; omega))

/-- The pixels in one row of products. -/
theorem flat_at (x : FVec Ideal S4x112x112x48 .f32) (n : Fin 4) (i j : Fin 112) (k : Fin 48) (h) :
    shapeCast S50176x48 x h (ix2 ⟨n.val * 12544 + i.val * 112 + j.val, by omega⟩ k : S50176x48.Idx) = x (ix4 n i j k) := by
  pointwise
  all_goals first | rfl | (congr 2 <;> exact Fin.ext (by dsimp only; omega))

theorem v19_at (n : Fin 4) (i j : Fin 112) (ki kj : Fin 4) (k : Fin 3) :
    StableHlo.after hostOps0_2 V ↑main_v19 (ix2 ⟨n.val * 12544 + i.val * 112 + j.val, by omega⟩
        ⟨(4 * ki.val + kj.val) * 3 + k.val, by omega⟩ : S50176x48.Idx)
      = V ↑main_v1 (ix4 n ⟨2 * i.val + ki.val, by omega⟩ ⟨2 * j.val + kj.val, by omega⟩ k : S4x226x226x3.Idx) := by
  have e := v18_at V n i j ⟨4 * ki.val + kj.val, by omega⟩ k
  simp only [StableHlo.readAfter, StableHlo.reshape_result'] at e ⊢
  refine (flat_at _ n i j _ _).trans ?_
  simp only [StableHlo.readUpto]
  refine e.trans ?_
  congr 2 <;> exact Fin.ext (by dsimp only; omega)

theorem v21_at (ki kj : Fin 4) (k : Fin 3) (o : Fin 128) :
    StableHlo.after hostOps0_2 V ↑main_v21 (ix2 ⟨(4 * ki.val + kj.val) * 3 + k.val, by omega⟩ o : S48x128.Idx)
      = V ↑main_arg1 (ix4 o k ki kj : S128x3x4x4.Idx) := by
  after_reads_at
  all_goals first | rfl | (congr 2 <;> exact Fin.ext (by dsimp only; omega)) | (congr 1 <;> exact Fin.ext (by dsimp only; omega))

theorem v22_at (o : Fin 128) :
    StableHlo.after hostOps0_2 V ↑main_v22 (ix2 0 o : S1x128.Idx) = V ↑main_arg2 (ix1 o : S128.Idx) := by
  after_reads_at

/-! ## Between the first and the second call -/

theorem v24_at (n : Fin 4) (i j : Fin 112) (k : Fin 128) :
    StableHlo.after hostOps1 V ↑main_v24 (ix4 n i j k : S4x112x112x128.Idx)
      = V ↑main_v23 (ix2 ⟨n.val * 12544 + i.val * 112 + j.val, by omega⟩ k : S50176x128.Idx) := by
  after_reads_at
  all_goals first | rfl | (congr 2 <;> exact Fin.ext (by dsimp only; omega)) | (congr 1 <;> exact Fin.ext (by dsimp only; omega))

theorem c1 : StableHlo.after hostOps1 V ↑main_c_0 = constantI S_ 32 0#32 := by
  after_reads_simp

theorem v25_at (n : Fin 4) (r s : Fin 116) (k : Fin 128) (hc : V ↑main_c_0 = constantI S_ 32 0#32) :
    StableHlo.after hostOps1_1 V ↑main_v25 (ix4 n r s k : S4x116x116x128.Idx)
      = ext (fun i j => V ↑main_v24 (ix4 n i j k : S4x112x112x128.Idx)) ((r : ℕ) - 2) ((s : ℕ) - 2) := by
  after_reads_at
  rw [zero_of hc]
  exact pad_by 2 (fun i j => V ↑main_v24 (ix4 n i j k : S4x112x112x128.Idx)) r s

theorem x1A_at (n : Fin 4) (r : Fin 57) (s : Fin 56) (k : Fin 128) :
    StableHlo.after hostOps1_2 V ↑main_v41 (ix4 n r s k : S4x57x56x128.Idx) = V ↑main_v25 (ix4 n ⟨2 * r.val + 1, by omega⟩ ⟨2 * s.val + 1, by omega⟩ k : S4x116x116x128.Idx)
    ∧ StableHlo.after hostOps1_2 V ↑main_v39 (ix4 n r s k : S4x57x56x128.Idx) = V ↑main_v25 (ix4 n ⟨2 * r.val + 1, by omega⟩ ⟨2 * s.val + 2, by omega⟩ k : S4x116x116x128.Idx)
    ∧ StableHlo.after hostOps1_2 V ↑main_v42 (ix4 n r s k : S4x57x56x128.Idx) = V ↑main_v25 (ix4 n ⟨2 * r.val + 1, by omega⟩ ⟨2 * s.val + 3, by omega⟩ k : S4x116x116x128.Idx)
    ∧ StableHlo.after hostOps1_2 V ↑main_v40 (ix4 n r s k : S4x57x56x128.Idx) = V ↑main_v25 (ix4 n ⟨2 * r.val + 1, by omega⟩ ⟨2 * s.val + 4, by omega⟩ k : S4x116x116x128.Idx) := by
  refine ⟨?_, ?_, ?_, ?_⟩ <;> after_reads_at
  all_goals first | rfl | (congr 2 <;> exact Fin.ext (by dsimp only; omega)) | (congr 1 <;> exact Fin.ext (by dsimp only; omega))

theorem x1B_at (n : Fin 4) (r : Fin 57) (s : Fin 56) (k : Fin 128) :
    StableHlo.after hostOps1_2 V ↑main_v34 (ix4 n r s k : S4x57x56x128.Idx) = V ↑main_v25 (ix4 n ⟨2 * r.val + 2, by omega⟩ ⟨2 * s.val + 1, by omega⟩ k : S4x116x116x128.Idx)
    ∧ StableHlo.after hostOps1_2 V ↑main_v32 (ix4 n r s k : S4x57x56x128.Idx) = V ↑main_v25 (ix4 n ⟨2 * r.val + 2, by omega⟩ ⟨2 * s.val + 2, by omega⟩ k : S4x116x116x128.Idx)
    ∧ StableHlo.after hostOps1_2 V ↑main_v35 (ix4 n r s k : S4x57x56x128.Idx) = V ↑main_v25 (ix4 n ⟨2 * r.val + 2, by omega⟩ ⟨2 * s.val + 3, by omega⟩ k : S4x116x116x128.Idx)
    ∧ StableHlo.after hostOps1_2 V ↑main_v33 (ix4 n r s k : S4x57x56x128.Idx) = V ↑main_v25 (ix4 n ⟨2 * r.val + 2, by omega⟩ ⟨2 * s.val + 4, by omega⟩ k : S4x116x116x128.Idx) := by
  refine ⟨?_, ?_, ?_, ?_⟩ <;> after_reads_at
  all_goals first | rfl | (congr 2 <;> exact Fin.ext (by dsimp only; omega)) | (congr 1 <;> exact Fin.ext (by dsimp only; omega))

theorem v44_at (ki kj : Fin 4) (k o : Fin 128) :
    StableHlo.after hostOps1_2 V ↑main_v44 (ix3 ⟨4 * ki.val + kj.val, by omega⟩ k o : S16x128x128.Idx)
      = V ↑main_arg3 (ix4 o k ki kj : S128x128x4x4.Idx) := by
  after_reads_at
  all_goals first | rfl | (congr 2 <;> exact Fin.ext (by dsimp only; omega)) | (congr 1 <;> exact Fin.ext (by dsimp only; omega))

theorem v45_at (o : Fin 128) :
    StableHlo.after hostOps1_2 V ↑main_v45 (ix2 0 o : S1x128.Idx) = V ↑main_arg4 (ix1 o : S128.Idx) := by
  after_reads_at

/-! ## Between the second and the third call -/

theorem v48_at (s u : Fin 3) (k o : Fin 128) :
    StableHlo.after hostOps2 V ↑main_v48 (ix3 ⟨3 * s.val + u.val, by omega⟩ k o : S9x128x128.Idx)
      = V ↑main_arg5 (ix4 o k s u : S128x128x3x3.Idx) := by
  after_reads_at
  all_goals first | rfl | (congr 2 <;> exact Fin.ext (by dsimp only; omega)) | (congr 1 <;> exact Fin.ext (by dsimp only; omega))

theorem v50_at (k : Fin 128) (o : Fin 64) :
    StableHlo.after hostOps2 V ↑main_v50 (ix2 k o : S128x64.Idx) = V ↑main_arg7 (ix4 o k 0 0 : S64x128x1x1.Idx) := by
  after_reads_at

theorem v51_at (n : Fin 4) (i j : Fin 56) (k : Fin 128) :
    StableHlo.after hostOps2 V ↑main_v51 (ix4 n i j k : S4x56x56x128.Idx)
      = V ↑main_v46 (ix3 n ⟨i.val * 56 + j.val, by omega⟩ k : S4x3136x128.Idx) := by
  after_reads_at

theorem c2 : StableHlo.after hostOps2 V ↑main_c_1 = constantI S_ 32 0#32 := by
  after_reads_simp

theorem v52_at (n : Fin 4) (r s : Fin 58) (k : Fin 128) (hc : V ↑main_c_1 = constantI S_ 32 0#32) :
    StableHlo.after hostOps2_1 V ↑main_v52 (ix4 n r s k : S4x58x58x128.Idx)
      = ext (fun i j => V ↑main_v51 (ix4 n i j k : S4x56x56x128.Idx)) ((r : ℕ) - 1) ((s : ℕ) - 1) := by
  after_reads_at
  rw [zero_of hc]
  exact pad_ext (fun i j => V ↑main_v51 (ix4 n i j k : S4x56x56x128.Idx)) r s

theorem x2_at (n : Fin 4) (r : Fin 58) (s : Fin 56) (k : Fin 128) :
    StableHlo.after hostOps2_2 V ↑main_v53 (ix4 n r s k : S4x58x56x128.Idx) = V ↑main_v52 (ix4 n r ⟨s.val + 0, by omega⟩ k : S4x58x58x128.Idx)
    ∧ StableHlo.after hostOps2_2 V ↑main_v54 (ix4 n r s k : S4x58x56x128.Idx) = V ↑main_v52 (ix4 n r ⟨s.val + 1, by omega⟩ k : S4x58x58x128.Idx)
    ∧ StableHlo.after hostOps2_2 V ↑main_v55 (ix4 n r s k : S4x58x56x128.Idx) = V ↑main_v52 (ix4 n r ⟨s.val + 2, by omega⟩ k : S4x58x58x128.Idx) := by
  refine ⟨?_, ?_, ?_⟩ <;> after_reads_at <;> simp only [Nat.add_comm, Nat.add_zero, Nat.zero_add]

theorem v56_at (o : Fin 128) :
    StableHlo.after hostOps2_2 V ↑main_v56 (ix2 0 o : S1x128.Idx) = V ↑main_arg6 (ix1 o : S128.Idx) := by
  after_reads_at

theorem v57_at (o : Fin 64) :
    StableHlo.after hostOps2_2 V ↑main_v57 (ix2 0 o : S1x64.Idx) = V ↑main_arg8 (ix1 o : S64.Idx) := by
  after_reads_at

/-! ## After the third call -/

theorem v60_at (n : Fin 4) (o : Fin 64) (i j : Fin 56) :
    StableHlo.after hostOps3 V ↑main_v60 (ix4 n o i j : S4x64x56x56.Idx)
      = V ↑main_v58 (ix3 n ⟨i.val * 56 + j.val, by omega⟩ o : S4x3136x64.Idx) := by
  after_reads_at

end Cert.EncoderIdeal.Host

end
-- ==== Proof.EncValue.lean ====
/- What the encoder's run leaves in its result array: the layers of Spec.lean, one after the other. -/
module

public import proofs.«01_k».proof.Proof.Enc0
public import proofs.«01_k».proof.Proof.Enc1
public import proofs.«01_k».proof.Proof.Enc2
public import proofs.«01_k».proof.Proof.EncHost

@[expose] public section

set_option maxRecDepth 16384

noncomputable section

namespace Cert.EncoderIdeal.Value

open Idealize.ShloMosaic Idealize.ShloMosaic.TcCoe Idealize.SL.Sem
open Cert.EncoderIdeal Cert.EncoderIdeal.Gen Cert.EncoderIdeal.Host Cert.Spec

variable (m : (ℓ : Loc nD τ sig) → Buf (Elt Ideal) ℓ) (ρ : Dev nD → PrngReg) (c : Dev nD)

/-- The arguments as functions of curried indices. -/
def q : Img 3 224 224 := fun n k i j => m ((c.tc : Thread nD τ).loc main_arg0) (ix4 n k i j : S4x3x224x224.Idx)
def w1 : Fin 128 → Fin 3 → Fin 4 → Fin 4 → EReal := fun o k i j => m ((c.tc : Thread nD τ).loc main_arg1) (ix4 o k i j : S128x3x4x4.Idx)
def b1 : Fin 128 → EReal := fun o => m ((c.tc : Thread nD τ).loc main_arg2) (ix1 o : S128.Idx)
def w2 : Fin 128 → Fin 128 → Fin 4 → Fin 4 → EReal := fun o k i j => m ((c.tc : Thread nD τ).loc main_arg3) (ix4 o k i j : S128x128x4x4.Idx)
def b2 : Fin 128 → EReal := fun o => m ((c.tc : Thread nD τ).loc main_arg4) (ix1 o : S128.Idx)
def w3 : Fin 128 → Fin 128 → Fin 3 → Fin 3 → EReal := fun o k i j => m ((c.tc : Thread nD τ).loc main_arg5) (ix4 o k i j : S128x128x3x3.Idx)
def b3 : Fin 128 → EReal := fun o => m ((c.tc : Thread nD τ).loc main_arg6) (ix1 o : S128.Idx)
def wp : Fin 64 → Fin 128 → EReal := fun o k => m ((c.tc : Thread nD τ).loc main_arg7) (ix4 o k 0 0 : S64x128x1x1.Idx)
def bp : Fin 64 → EReal := fun o => m ((c.tc : Thread nD τ).loc main_arg8) (ix1 o : S64.Idx)

/-- The two hidden layers, of the arguments. -/
def h1 : Img 128 112 112 := conv4 112 112 (q m c) (w1 m c) (b1 m c)
def h2 : Img 128 56 56 := conv4 56 56 (h1 m c) (w2 m c) (b2 m c)

/-! ## The first call -/

theorem x0 (n : Fin 4) (i j : Fin 112) (ki kj : Fin 4) (k : Fin 3) :
    V3 m ρ c main_v19 (ix2 ⟨n.val * 12544 + i.val * 112 + j.val, by omega⟩ ⟨(4 * ki.val + kj.val) * 3 + k.val, by omega⟩ : S50176x48.Idx)
      = ext (q m c n k) (2 * (i : ℕ) + (ki : ℕ) - 1) (2 * (j : ℕ) + (kj : ℕ) - 1) :=
  (v19_at (W2 m ρ c) n i j ki kj k).trans ((v1_at (W1 m ρ c) n _ _ k (c0 (W0 m ρ c))).trans
    ((congrArg (fun f => ext f _ _) (funext fun i => funext fun j => v0_at (W0 m ρ c) n i j k)).trans (by push_cast; rfl)))

theorem wt0 (ki kj : Fin 4) (k : Fin 3) (o : Fin 128) :
    V3 m ρ c main_v21 (ix2 ⟨(4 * ki.val + kj.val) * 3 + k.val, by omega⟩ o : S48x128.Idx) = w1 m c o k ki kj :=
  (v21_at (W2 m ρ c) ki kj k o).trans (congrFun (W2_args m ρ c main_arg1 (by decide)) _)

theorem bias0 (o : Fin 128) : V3 m ρ c main_v22 (ix2 0 o : S1x128.Idx) = b1 m c o :=
  (v22_at (W2 m ρ c) o).trans (congrFun (W2_args m ρ c main_arg2 (by decide)) _)

theorem layer1 (n : Fin 4) (i j : Fin 112) (o : Fin 128) :
    W5 m ρ c main_v24 (ix4 n i j o : S4x112x112x128.Idx) = h1 m c n o i j := by
  refine (v24_at (W4 m ρ c) n i j o).trans ((congrFun ((W4_arr m ρ c 3).trans (R0.final (V3 m ρ) c)) _).trans ?_)
  show R0.out (V3 m ρ c main_v19) (V3 m ρ c main_v21) (V3 m ρ c main_v22) ⟨n.val * 12544 + i.val * 112 + j.val, by omega⟩ o = _
  unfold R0.out
  rw [bias0]
  exact congrArg (fun z => max (z + b1 m c o) 0) ((sum48 _).trans (congrArg sum16 (funext fun ki => funext fun kj =>
    Finset.sum_congr rfl fun k _ => congrArg₂ (· * · : EReal → EReal → EReal) (x0 m ρ c n i j ki kj k) (wt0 m ρ c ki kj k o))))

/-! ## The second call -/

theorem x1 (n : Fin 4) (ki kj : Fin 4) (r : Fin 57) (s : Fin 56) (k : Fin 128) :
    R1.views (V7 m ρ) c ki kj (ix4 n r s k)
      = ext (h1 m c n k) (2 * (r : ℕ) + (ki.val % 2 : ℕ) - 1) (2 * (s : ℕ) + (kj : ℕ) - 1) := by
  have e : ∀ r' s' : Fin 116, W6 m ρ c main_v25 (ix4 n r' s' k : S4x116x116x128.Idx) = ext (h1 m c n k) ((r' : ℕ) - 2) ((s' : ℕ) - 2) := fun r' s' =>
    (v25_at (W5 m ρ c) n r' s' k (c1 (W4 m ρ c))).trans
      (congrArg (fun f => ext f ((r' : ℕ) - 2) ((s' : ℕ) - 2)) (funext fun i => funext fun j => layer1 m ρ c n i j k))
  obtain ⟨a0, a1, a2, a3⟩ := x1A_at (W6 m ρ c) n r s k
  obtain ⟨d0, d1, d2, d3⟩ := x1B_at (W6 m ρ c) n r s k
  have go {v : EReal} {r' s' : Fin 116} (a b : ℕ) (h : v = W6 m ρ c main_v25 (ix4 n r' s' k : S4x116x116x128.Idx))
      (hr : r'.val = 2 * r.val + (a + 1)) (hs : s'.val = 2 * s.val + (b + 1)) :
      v = ext (h1 m c n k) (2 * (r : ℕ) + a - 1) (2 * (s : ℕ) + b - 1) :=
    h.trans ((e r' s').trans (congrArg₂ (ext (h1 m c n k)) (by omega) (by omega)))
  have A (kj : Fin 4) : R1.rowA (V7 m ρ) c kj (ix4 n r s k) = ext (h1 m c n k) (2 * (r : ℕ) + (0 : ℕ) - 1) (2 * (s : ℕ) + (kj : ℕ) - 1) := by
    obtain rfl | rfl | rfl | rfl : kj = 0 ∨ kj = 1 ∨ kj = 2 ∨ kj = 3 := by omega
    · exact go 0 0 a0 rfl rfl
    · exact go 0 1 a1 rfl rfl
    · exact go 0 2 a2 rfl rfl
    · exact go 0 3 a3 rfl rfl
  have B (kj : Fin 4) : R1.rowB (V7 m ρ) c kj (ix4 n r s k) = ext (h1 m c n k) (2 * (r : ℕ) + (1 : ℕ) - 1) (2 * (s : ℕ) + (kj : ℕ) - 1) := by
    obtain rfl | rfl | rfl | rfl : kj = 0 ∨ kj = 1 ∨ kj = 2 ∨ kj = 3 := by omega
    · exact go 1 0 d0 rfl rfl
    · exact go 1 1 d1 rfl rfl
    · exact go 1 2 d2 rfl rfl
    · exact go 1 3 d3 rfl rfl
  obtain rfl | rfl | rfl | rfl : ki = 0 ∨ ki = 1 ∨ ki = 2 ∨ ki = 3 := by omega
  · exact A kj
  · exact B kj
  · exact A kj
  · exact B kj

theorem wt1 (ki kj : Fin 4) (k o : Fin 128) :
    V7 m ρ c main_v44 (ix3 ⟨4 * ki.val + kj.val, by omega⟩ k o : S16x128x128.Idx) = w2 m c o k ki kj :=
  (v44_at (W6 m ρ c) ki kj k o).trans (congrFun (W6_args m ρ c main_arg3 (by decide)) _)

theorem bias1 (o : Fin 128) : V7 m ρ c main_v45 (ix2 0 o : S1x128.Idx) = b2 m c o :=
  (v45_at (W6 m ρ c) o).trans (congrFun (W6_args m ρ c main_arg4 (by decide)) _)

theorem layer2 (n : Fin 4) (i j : Fin 56) (o : Fin 128) :
    W9 m ρ c main_v51 (ix4 n i j o : S4x56x56x128.Idx) = h2 m c n o i j := by
  refine (v51_at (W8 m ρ c) n i j o).trans ((congrFun ((W8_arr m ρ c 10).trans (R1.final (V7 m ρ) c)) _).trans ?_)
  have t (ki kj : Fin 4) : R1.tap (R1.views (V7 m ρ) c) (V7 m ρ c main_v44) ki kj n ⟨i.val * 56 + j.val, by omega⟩ o
      = ∑ k, ext (h1 m c n k) (2 * (i : ℕ) + (ki : ℕ) - 1) (2 * (j : ℕ) + (kj : ℕ) - 1) * w2 m c o k ki kj :=
    Finset.sum_congr rfl fun k _ => by
      rw [x1, wt1]
      congr 2 <;> dsimp only <;> omega
  show R1.out (V7 m ρ c main_v44) (V7 m ρ c main_v45) (R1.views (V7 m ρ) c) n ⟨i.val * 56 + j.val, by omega⟩ o = _
  unfold R1.out
  rw [bias1]
  exact congrArg (fun z => max (z + b2 m c o) 0) (sum16_of (t 0 0) (t 0 1) (t 0 2) (t 0 3) (t 1 0) (t 1 1) (t 1 2) (t 1 3)
    (t 2 0) (t 2 1) (t 2 2) (t 2 3) (t 3 0) (t 3 1) (t 3 2) (t 3 3))

/-! ## The third call -/

theorem x2 (u : Fin 3) (n : Fin 4) (r : Fin 58) (s : Fin 56) (k : Fin 128) :
    R2.views (V11 m ρ) c u (ix4 n r s k) = ext (h2 m c n k) ((r : ℕ) - 1) ((s : ℕ) + (u : ℕ) - 1) := by
  have e : ∀ s' : Fin 58, W10 m ρ c main_v52 (ix4 n r s' k : S4x58x58x128.Idx) = ext (h2 m c n k) ((r : ℕ) - 1) ((s' : ℕ) - 1) := fun s' =>
    (v52_at (W9 m ρ c) n r s' k (c2 (W8 m ρ c))).trans
      (congrArg (fun f => ext f ((r : ℕ) - 1) ((s' : ℕ) - 1)) (funext fun i => funext fun j => layer2 m ρ c n i j k))
  obtain ⟨e0, e1, e2⟩ := x2_at (W10 m ρ c) n r s k
  obtain rfl | rfl | rfl : u = 0 ∨ u = 1 ∨ u = 2 := by omega
  · exact e0.trans ((e _).trans (congrArg _ (by simp)))
  · exact e1.trans ((e _).trans (congrArg _ (by simp)))
  · exact e2.trans ((e _).trans (congrArg _ (by simp)))

theorem wt2 (s u : Fin 3) (k o : Fin 128) :
    V11 m ρ c main_v48 (ix3 ⟨3 * s.val + u.val, by omega⟩ k o : S9x128x128.Idx) = w3 m c o k s u :=
  (congrFun ((W11_of m ρ c main_v48 (by decide)).trans (W10_of m ρ c main_v48 (by decide))) _).trans
    ((v48_at (W8 m ρ c) s u k o).trans (congrFun (W8_args m ρ c main_arg5 (by decide)) _))

theorem proj (k : Fin 128) (o : Fin 64) : V11 m ρ c main_v50 (ix2 k o : S128x64.Idx) = wp m c o k :=
  (congrFun ((W11_of m ρ c main_v50 (by decide)).trans (W10_of m ρ c main_v50 (by decide))) _).trans
    ((v50_at (W8 m ρ c) k o).trans (congrFun (W8_args m ρ c main_arg7 (by decide)) _))

theorem bias2 (o : Fin 128) : V11 m ρ c main_v56 (ix2 0 o : S1x128.Idx) = b3 m c o :=
  (v56_at (W10 m ρ c) o).trans (congrFun (W10_args m ρ c main_arg6 (by decide)) _)

theorem bias3 (o : Fin 64) : V11 m ρ c main_v57 (ix2 0 o : S1x64.Idx) = bp m c o :=
  (v57_at (W10 m ρ c) o).trans (congrFun (W10_args m ρ c main_arg8 (by decide)) _)

theorem layer3 (n : Fin 4) (o : Fin 64) (i j : Fin 56) :
    W13 m ρ c main_v60 (ix4 n o i j : S4x64x56x56.Idx) = code (h2 m c) (w3 m c) (b3 m c) (wp m c) (bp m c) n o i j := by
  refine (v60_at (W12 m ρ c) n o i j).trans ((congrFun ((W12_arr m ρ c 7).trans (R2.final (V11 m ρ) c)) _).trans ?_)
  have t (y : Fin 128) (s u : Fin 3) : R2.tap (R2.views (V11 m ρ) c) (V11 m ρ c main_v48) s u n ⟨i.val * 56 + j.val, by omega⟩ y
      = ∑ k, ext (h2 m c n k) ((i : ℕ) + (s : ℕ) - 1) ((j : ℕ) + (u : ℕ) - 1) * w3 m c y k s u :=
    Finset.sum_congr rfl fun k _ => by
      rw [x2, wt2]
      congr 2 <;> dsimp only <;> omega
  show R2.out (V11 m ρ c main_v48) (V11 m ρ c main_v56) (V11 m ρ c main_v50) (V11 m ρ c main_v57) (R2.views (V11 m ρ) c) n
    ⟨i.val * 56 + j.val, by omega⟩ o = _
  unfold R2.out R2.mid
  rw [bias3]
  refine congrArg (· + bp m c o) (Finset.sum_congr rfl fun y _ => ?_)
  rw [bias2, proj]
  exact congrArg (fun z => (z + b3 m c y) * wp m c o y) (sum9_of (t y 0 0) (t y 0 1) (t y 0 2) (t y 1 0) (t y 1 1) (t y 1 2)
    (t y 2 0) (t y 2 1) (t y 2 2))

end Cert.EncoderIdeal.Value

end
-- ==== Proof.EncRef.lean ====
/- What the encoder's reference leaves in its result array: the same layers of Spec.lean, of its own arguments. -/
module

public import proofs.«01_k».proof.Proof.Gen.EncoderReferenceIdeal.Run
public import proofs.«01_k».proof.Proof.Spec
public import Idealize.ShloMosaic.Lib.Pointwise
public import Idealize.ShloMosaic.Lib.StableHlo.ReadAt

@[expose] public section

set_option maxRecDepth 16384

noncomputable section

namespace Cert.EncoderReferenceIdeal.Value

open Idealize.ShloMosaic Idealize.ShloMosaic.TcCoe Idealize.SL.Sem
open Cert.EncoderReferenceIdeal Cert.Spec

variable (V : Valuation τ sig (Elt Ideal))

/-- The arguments as functions of curried indices. -/
def q : Img 3 224 224 := fun n k i j => V ↑main_arg0 (ix4 n k i j : S4x3x224x224.Idx)
def w1 : Fin 128 → Fin 3 → Fin 4 → Fin 4 → EReal := fun o k i j => V ↑main_arg1 (ix4 o k i j : S128x3x4x4.Idx)
def b1 : Fin 128 → EReal := fun o => V ↑main_arg2 (ix1 o : S128.Idx)
def w2 : Fin 128 → Fin 128 → Fin 4 → Fin 4 → EReal := fun o k i j => V ↑main_arg3 (ix4 o k i j : S128x128x4x4.Idx)
def b2 : Fin 128 → EReal := fun o => V ↑main_arg4 (ix1 o : S128.Idx)
def w3 : Fin 128 → Fin 128 → Fin 3 → Fin 3 → EReal := fun o k i j => V ↑main_arg5 (ix4 o k i j : S128x128x3x3.Idx)
def b3 : Fin 128 → EReal := fun o => V ↑main_arg6 (ix1 o : S128.Idx)
def wp : Fin 64 → Fin 128 → EReal := fun o k => V ↑main_arg7 (ix4 o k 0 0 : S64x128x1x1.Idx)
def bp : Fin 64 → EReal := fun o => V ↑main_arg8 (ix1 o : S64.Idx)

/-- The two hidden layers, of the arguments. -/
def h1 : Img 128 112 112 := conv4 112 112 (q V) (w1 V) (b1 V)
def h2 : Img 128 56 56 := conv4 56 56 (h1 V) (w2 V) (b2 V)

/-- The inputs of the three convolutions with the zeros around them. -/
def p1 : Img 3 226 226 := fun n k i j => res_main_v85 V (ix4 n k i j : S4x3x226x226.Idx)
def p2 : Img 128 114 114 := fun n k i j => res_main_v139 V (ix4 n k i j : S4x128x114x114.Idx)
def p3 : Img 128 58 58 := fun n k i j => res_main_v193 V (ix4 n k i j : S4x128x58x58.Idx)

theorem pad1_at (x : FVec Ideal S4x3x224x224 .f32) (n : Fin 4) (k : Fin 3) (r s : Fin 226) :
    pad S4x3x226x226 ![0, 0, 1, 1] ![0, 0, 1, 1] ![0, 0, 0, 0] x (constant (F := Ideal) S_ .f32 0x00000000#32)
        Gen.pads_S4x3x224x224_S4x3x226x226_000_000_110_110 Gen.h_S_ (ix4 n k r s : S4x3x226x226.Idx)
      = ext (fun i j => x (ix4 n k i j : S4x3x224x224.Idx)) ((r : ℕ) - 1) ((s : ℕ) - 1) := by
  refine Eq.trans ?_ (pad_ext (fun i j => x (ix4 n k i j : S4x3x224x224.Idx)) r s)
  pointwise

theorem v85_at (n : Fin 4) (k : Fin 3) (r s : Fin 226) :
    res_main_v85 V (ix4 n k r s : S4x3x226x226.Idx) = ext (q V n k) ((r : ℕ) - 1) ((s : ℕ) - 1) :=
  pad1_at (V ↑main_arg0) n k r s

set_option maxHeartbeats 1000000 in
theorem v139_at (n : Fin 4) (k : Fin 128) (r s : Fin 114) :
    res_main_v139 V (ix4 n k r s : S4x128x114x114.Idx) = ext (h1 V n k) ((r : ℕ) - 1) ((s : ℕ) - 1) := by
  refine Eq.trans ?_ (pad_ext (h1 V n k) r s)
  pointwise [res_main_v139, res_main_v120, res_main_v0]
  refine dite_congr rfl (fun h => ?_) (fun _ => rfl)
  have t (ki kj : Fin 4) (a b : Fin 226) (ha : a.val = 2 * (r.val - 1) + ki.val) (hb : b.val = 2 * (s.val - 1) + kj.val) :
      ∑ x, w1 V k x ki kj * p1 V n x a b
        = ∑ x, ext (q V n x) (2 * (r.val - 1 : ℕ) + (ki : ℕ) - 1) (2 * (s.val - 1 : ℕ) + (kj : ℕ) - 1) * w1 V k x ki kj :=
    Finset.sum_congr rfl fun x _ => by
      rw [show p1 V n x a b = _ from v85_at V n x a b, mul_comm, ha, hb]
      push_cast
      rfl
  refine congrArg₂ (max : EReal → EReal → EReal) (congrArg₂ (· + · : EReal → EReal → EReal) (sum16_of
      (t 0 0 _ _ ?_ ?_) (t 0 1 _ _ ?_ ?_) (t 0 2 _ _ ?_ ?_) (t 0 3 _ _ ?_ ?_)
      (t 1 0 _ _ ?_ ?_) (t 1 1 _ _ ?_ ?_) (t 1 2 _ _ ?_ ?_) (t 1 3 _ _ ?_ ?_)
      (t 2 0 _ _ ?_ ?_) (t 2 1 _ _ ?_ ?_) (t 2 2 _ _ ?_ ?_) (t 2 3 _ _ ?_ ?_)
      (t 3 0 _ _ ?_ ?_) (t 3 1 _ _ ?_ ?_) (t 3 2 _ _ ?_ ?_) (t 3 3 _ _ ?_ ?_)) rfl) rfl
  all_goals first | rfl | (dsimp only; omega)

set_option maxHeartbeats 1000000 in
theorem v193_at (n : Fin 4) (k : Fin 128) (r s : Fin 58) :
    res_main_v193 V (ix4 n k r s : S4x128x58x58.Idx) = ext (h2 V n k) ((r : ℕ) - 1) ((s : ℕ) - 1) := by
  refine Eq.trans ?_ (pad_ext (h2 V n k) r s)
  pointwise [res_main_v193, res_main_v174, res_main_v33]
  refine dite_congr rfl (fun h => ?_) (fun _ => rfl)
  have t (ki kj : Fin 4) (a b : Fin 114) (ha : a.val = 2 * (r.val - 1) + ki.val) (hb : b.val = 2 * (s.val - 1) + kj.val) :
      ∑ x, w2 V k x ki kj * p2 V n x a b
        = ∑ x, ext (h1 V n x) (2 * (r.val - 1 : ℕ) + (ki : ℕ) - 1) (2 * (s.val - 1 : ℕ) + (kj : ℕ) - 1) * w2 V k x ki kj :=
    Finset.sum_congr rfl fun x _ => by
      rw [show p2 V n x a b = _ from v139_at V n x a b, mul_comm, ha, hb]
      push_cast
      rfl
  refine congrArg₂ (max : EReal → EReal → EReal) (congrArg₂ (· + · : EReal → EReal → EReal) (sum16_of
      (t 0 0 _ _ ?_ ?_) (t 0 1 _ _ ?_ ?_) (t 0 2 _ _ ?_ ?_) (t 0 3 _ _ ?_ ?_)
      (t 1 0 _ _ ?_ ?_) (t 1 1 _ _ ?_ ?_) (t 1 2 _ _ ?_ ?_) (t 1 3 _ _ ?_ ?_)
      (t 2 0 _ _ ?_ ?_) (t 2 1 _ _ ?_ ?_) (t 2 2 _ _ ?_ ?_) (t 2 3 _ _ ?_ ?_)
      (t 3 0 _ _ ?_ ?_) (t 3 1 _ _ ?_ ?_) (t 3 2 _ _ ?_ ?_) (t 3 3 _ _ ?_ ?_)) rfl) rfl
  all_goals first | rfl | (dsimp only; omega)

/-- The result array. -/
def out : FVec Ideal S4x64x56x56 .f32 := fun x => code (h2 V) (w3 V) (b3 V) (wp V) (bp V) (x 0) (x 1) (x 2) (x 3)

/-- The third convolution at a pixel: nine taps over the padded layer. -/
theorem mid_at (n : Fin 4) (i j : Fin 56) (y : Fin 128) (ki kj : Fin 3) (a b : Fin 58) (ha : a.val = i.val + ki.val)
    (hb : b.val = j.val + kj.val) :
    ∑ x, w3 V y x ki kj * p3 V n x a b
      = ∑ x, ext (h2 V n x) ((i.val : ℤ) + (ki : ℕ) - 1) ((j.val : ℤ) + (kj : ℕ) - 1) * w3 V y x ki kj :=
  Finset.sum_congr rfl fun x _ => by
    rw [show p3 V n x a b = _ from v193_at V n x a b, mul_comm, ha, hb]
    push_cast
    rfl

set_option maxHeartbeats 1000000 in
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v231) = out (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨(h c).1.trans ?_, (h c).2⟩) (run m ρ)
  generalize StableHlo.launchContents m c = V
  refine funext fun x => ?_
  obtain ⟨n, o, i, j, rfl⟩ : ∃ (n : Fin 4) (o : Fin 64) (i j : Fin 56), x = (ix4 n o i j : S4x64x56x56.Idx) := ⟨_, _, _, _, eq_ix4 x⟩
  show _ = code (h2 V) (w3 V) (b3 V) (wp V) (bp V) n o i j
  pointwise [res_main_v66]
  refine congrArg₂ (· + · : EReal → EReal → EReal) (Finset.sum_congr rfl fun y _ => ?_) rfl
  refine (mul_comm _ _).trans (congrArg₂ (· * · : EReal → EReal → EReal) (congrArg₂ (· + · : EReal → EReal → EReal) (sum9_of
      (mid_at V n i j y 0 0 _ _ ?_ ?_) (mid_at V n i j y 0 1 _ _ ?_ ?_) (mid_at V n i j y 0 2 _ _ ?_ ?_)
      (mid_at V n i j y 1 0 _ _ ?_ ?_) (mid_at V n i j y 1 1 _ _ ?_ ?_) (mid_at V n i j y 1 2 _ _ ?_ ?_)
      (mid_at V n i j y 2 0 _ _ ?_ ?_) (mid_at V n i j y 2 1 _ _ ?_ ?_) (mid_at V n i j y 2 2 _ _ ?_ ?_)) rfl) rfl)
  all_goals first | rfl | (dsimp only; omega)

end Cert.EncoderReferenceIdeal.Value

end
-- ==== Proof.lean ====
module

public import proofs.«01_k».proof.Defs
public import proofs.«01_k».proof.Proof.Gen.Decoder
public import proofs.«01_k».proof.Proof.Gen.Decoder.Skeleton
public import proofs.«01_k».proof.Proof.Gen.Decoder.Launch
public import proofs.«01_k».proof.Proof.Gen.Decoder.Points
public import proofs.«01_k».proof.Proof.Gen.Decoder.Frame
public import proofs.«01_k».proof.Proof.Gen.DecoderIdeal
public import proofs.«01_k».proof.Proof.Gen.DecoderIdeal.Skeleton
public import proofs.«01_k».proof.Proof.Gen.DecoderIdeal.Launch
public import proofs.«01_k».proof.Proof.Gen.DecoderIdeal.Points
public import proofs.«01_k».proof.Proof.Gen.DecoderIdeal.Frame
public import proofs.«01_k».proof.Proof.Gen.DecoderReferenceIdeal
public import proofs.«01_k».proof.Proof.Gen.DecoderReferenceIdeal.Run
public import proofs.«01_k».proof.Proof.Gen.EncoderReferenceIdeal.Run
public import proofs.«01_k».proof.Proof.Gen.Encoder
public import proofs.«01_k».proof.Proof.Gen.Encoder.Skeleton
public import proofs.«01_k».proof.Proof.Gen.Encoder.Launch
public import proofs.«01_k».proof.Proof.Gen.Encoder.Points
public import proofs.«01_k».proof.Proof.Gen.Encoder.Frame
public import proofs.«01_k».proof.Proof.Gen.EncoderIdeal
public import proofs.«01_k».proof.Proof.Gen.EncoderIdeal.Skeleton
public import proofs.«01_k».proof.Proof.Gen.EncoderIdeal.Launch
public import proofs.«01_k».proof.Proof.Gen.EncoderIdeal.Points
public import proofs.«01_k».proof.Proof.Gen.EncoderIdeal.Frame
public import proofs.«01_k».proof.Proof.Gen.EncoderReferenceIdeal
public import proofs.«01_k».proof.Proof.DecRun
public import proofs.«01_k».proof.Proof.DecValue
public import proofs.«01_k».proof.Proof.DecRef
public import proofs.«01_k».proof.Proof.EncRun
public import proofs.«01_k».proof.Proof.EncValue
public import proofs.«01_k».proof.Proof.EncRef
public import Idealize.ShloMosaic.Adequacy
public import Idealize.ShloMosaic.Init

@[expose] public section

noncomputable section

namespace Cert.Proof

open Idealize.ShloMosaic Idealize.ShloMosaic.TcCoe Idealize.SL.Sem Cert.Decoder

/-- From equal arguments, the layers of the one run are the layers of the other. -/
theorem same (m : (ℓ : Loc Cert.DecoderIdeal.nD Cert.DecoderIdeal.τ Cert.DecoderIdeal.sig) → Buf (Elt Ideal) ℓ)
    (ρ : Dev Cert.DecoderIdeal.nD → PrngReg)
    (m' : (ℓ : Loc Cert.DecoderReferenceIdeal.nD Cert.DecoderReferenceIdeal.τ Cert.DecoderReferenceIdeal.sig) → Buf (Elt Ideal) ℓ)
    (c : Dev Cert.DecoderIdeal.nD)
    (h : m' ((c.tc : Thread Cert.DecoderReferenceIdeal.nD Cert.DecoderReferenceIdeal.τ).loc Cert.DecoderReferenceIdeal.main_arg0) = m ((c.tc : Thread Cert.DecoderIdeal.nD Cert.DecoderIdeal.τ).loc Cert.DecoderIdeal.main_arg0)
      ∧ m' ((c.tc : Thread Cert.DecoderReferenceIdeal.nD Cert.DecoderReferenceIdeal.τ).loc Cert.DecoderReferenceIdeal.main_arg1) = m ((c.tc : Thread Cert.DecoderIdeal.nD Cert.DecoderIdeal.τ).loc Cert.DecoderIdeal.main_arg1)
      ∧ m' ((c.tc : Thread Cert.DecoderReferenceIdeal.nD Cert.DecoderReferenceIdeal.τ).loc Cert.DecoderReferenceIdeal.main_arg2) = m ((c.tc : Thread Cert.DecoderIdeal.nD Cert.DecoderIdeal.τ).loc Cert.DecoderIdeal.main_arg2)
      ∧ m' ((c.tc : Thread Cert.DecoderReferenceIdeal.nD Cert.DecoderReferenceIdeal.τ).loc Cert.DecoderReferenceIdeal.main_arg3) = m ((c.tc : Thread Cert.DecoderIdeal.nD Cert.DecoderIdeal.τ).loc Cert.DecoderIdeal.main_arg3)
      ∧ m' ((c.tc : Thread Cert.DecoderReferenceIdeal.nD Cert.DecoderReferenceIdeal.τ).loc Cert.DecoderReferenceIdeal.main_arg4) = m ((c.tc : Thread Cert.DecoderIdeal.nD Cert.DecoderIdeal.τ).loc Cert.DecoderIdeal.main_arg4)
      ∧ m' ((c.tc : Thread Cert.DecoderReferenceIdeal.nD Cert.DecoderReferenceIdeal.τ).loc Cert.DecoderReferenceIdeal.main_arg5) = m ((c.tc : Thread Cert.DecoderIdeal.nD Cert.DecoderIdeal.τ).loc Cert.DecoderIdeal.main_arg5)
      ∧ m' ((c.tc : Thread Cert.DecoderReferenceIdeal.nD Cert.DecoderReferenceIdeal.τ).loc Cert.DecoderReferenceIdeal.main_arg6) = m ((c.tc : Thread Cert.DecoderIdeal.nD Cert.DecoderIdeal.τ).loc Cert.DecoderIdeal.main_arg6)) :
    Cert.DecoderReferenceIdeal.Value.out (StableHlo.launchContents m' c) = Cert.DecoderIdeal.Gen.W13 m ρ c Cert.DecoderIdeal.main_v158 := by
  obtain ⟨h0, h1, h2, h3, h4, h5, h6⟩ := h
  have e0 : Cert.DecoderReferenceIdeal.Value.q (StableHlo.launchContents m' c) = Cert.DecoderIdeal.Value.q m c := by
    funext n k i j; exact congrFun h0 _
  have e1 : Cert.DecoderReferenceIdeal.Value.w1 (StableHlo.launchContents m' c) = Cert.DecoderIdeal.Value.w1 m c := by
    funext k o i j; exact congrFun h1 _
  have e2 : Cert.DecoderReferenceIdeal.Value.b1 (StableHlo.launchContents m' c) = Cert.DecoderIdeal.Value.b1 m c := by
    funext o; exact congrFun h2 _
  have e3 : Cert.DecoderReferenceIdeal.Value.w2 (StableHlo.launchContents m' c) = Cert.DecoderIdeal.Value.w2 m c := by
    funext k o i j; exact congrFun h3 _
  have e4 : Cert.DecoderReferenceIdeal.Value.b2 (StableHlo.launchContents m' c) = Cert.DecoderIdeal.Value.b2 m c := by
    funext o; exact congrFun h4 _
  have e5 : Cert.DecoderReferenceIdeal.Value.w3 (StableHlo.launchContents m' c) = Cert.DecoderIdeal.Value.w3 m c := by
    funext k o i j; exact congrFun h5 _
  have e6 : Cert.DecoderReferenceIdeal.Value.b3 (StableHlo.launchContents m' c) = Cert.DecoderIdeal.Value.b3 m c := by
    funext o; exact congrFun h6 _
  unfold Cert.DecoderReferenceIdeal.Value.out Cert.DecoderReferenceIdeal.Value.h2 Cert.DecoderReferenceIdeal.Value.h1
  rw [e0, e1, e2, e3, e4, e5, e6]
  refine funext fun x => ?_
  obtain ⟨n, o, i, j, rfl⟩ : ∃ (n : Fin 4) (o : Fin 3) (i j : Fin 224), x = (ix4 n o i j : Cert.DecoderIdeal.S4x3x224x224.Idx) :=
    ⟨_, _, _, _, eq_ix4 x⟩
  exact (Cert.DecoderIdeal.Value.layer3 m ρ c n o i j).symm

/-- The same for the encoder and its reference. -/
theorem same_enc (m : (ℓ : Loc Cert.EncoderIdeal.nD Cert.EncoderIdeal.τ Cert.EncoderIdeal.sig) → Buf (Elt Ideal) ℓ)
    (ρ : Dev Cert.EncoderIdeal.nD → PrngReg)
    (m' : (ℓ : Loc Cert.EncoderReferenceIdeal.nD Cert.EncoderReferenceIdeal.τ Cert.EncoderReferenceIdeal.sig) → Buf (Elt Ideal) ℓ)
    (c : Dev Cert.EncoderIdeal.nD)
    (h : m' ((c.tc : Thread Cert.EncoderReferenceIdeal.nD Cert.EncoderReferenceIdeal.τ).loc Cert.EncoderReferenceIdeal.main_arg0) = m ((c.tc : Thread Cert.EncoderIdeal.nD Cert.EncoderIdeal.τ).loc Cert.EncoderIdeal.main_arg0)
      ∧ m' ((c.tc : Thread Cert.EncoderReferenceIdeal.nD Cert.EncoderReferenceIdeal.τ).loc Cert.EncoderReferenceIdeal.main_arg1) = m ((c.tc : Thread Cert.EncoderIdeal.nD Cert.EncoderIdeal.τ).loc Cert.EncoderIdeal.main_arg1)
      ∧ m' ((c.tc : Thread Cert.EncoderReferenceIdeal.nD Cert.EncoderReferenceIdeal.τ).loc Cert.EncoderReferenceIdeal.main_arg2) = m ((c.tc : Thread Cert.EncoderIdeal.nD Cert.EncoderIdeal.τ).loc Cert.EncoderIdeal.main_arg2)
      ∧ m' ((c.tc : Thread Cert.EncoderReferenceIdeal.nD Cert.EncoderReferenceIdeal.τ).loc Cert.EncoderReferenceIdeal.main_arg3) = m ((c.tc : Thread Cert.EncoderIdeal.nD Cert.EncoderIdeal.τ).loc Cert.EncoderIdeal.main_arg3)
      ∧ m' ((c.tc : Thread Cert.EncoderReferenceIdeal.nD Cert.EncoderReferenceIdeal.τ).loc Cert.EncoderReferenceIdeal.main_arg4) = m ((c.tc : Thread Cert.EncoderIdeal.nD Cert.EncoderIdeal.τ).loc Cert.EncoderIdeal.main_arg4)
      ∧ m' ((c.tc : Thread Cert.EncoderReferenceIdeal.nD Cert.EncoderReferenceIdeal.τ).loc Cert.EncoderReferenceIdeal.main_arg5) = m ((c.tc : Thread Cert.EncoderIdeal.nD Cert.EncoderIdeal.τ).loc Cert.EncoderIdeal.main_arg5)
      ∧ m' ((c.tc : Thread Cert.EncoderReferenceIdeal.nD Cert.EncoderReferenceIdeal.τ).loc Cert.EncoderReferenceIdeal.main_arg6) = m ((c.tc : Thread Cert.EncoderIdeal.nD Cert.EncoderIdeal.τ).loc Cert.EncoderIdeal.main_arg6)
      ∧ m' ((c.tc : Thread Cert.EncoderReferenceIdeal.nD Cert.EncoderReferenceIdeal.τ).loc Cert.EncoderReferenceIdeal.main_arg7) = m ((c.tc : Thread Cert.EncoderIdeal.nD Cert.EncoderIdeal.τ).loc Cert.EncoderIdeal.main_arg7)
      ∧ m' ((c.tc : Thread Cert.EncoderReferenceIdeal.nD Cert.EncoderReferenceIdeal.τ).loc Cert.EncoderReferenceIdeal.main_arg8) = m ((c.tc : Thread Cert.EncoderIdeal.nD Cert.EncoderIdeal.τ).loc Cert.EncoderIdeal.main_arg8)) :
    Cert.EncoderReferenceIdeal.Value.out (StableHlo.launchContents m' c) = Cert.EncoderIdeal.Gen.W13 m ρ c Cert.EncoderIdeal.main_v60 := by
  obtain ⟨h0, h1, h2, h3, h4, h5, h6, h7, h8⟩ := h
  have e0 : Cert.EncoderReferenceIdeal.Value.q (StableHlo.launchContents m' c) = Cert.EncoderIdeal.Value.q m c := by
    funext n k i j; exact congrFun h0 _
  have e1 : Cert.EncoderReferenceIdeal.Value.w1 (StableHlo.launchContents m' c) = Cert.EncoderIdeal.Value.w1 m c := by
    funext o k i j; exact congrFun h1 _
  have e2 : Cert.EncoderReferenceIdeal.Value.b1 (StableHlo.launchContents m' c) = Cert.EncoderIdeal.Value.b1 m c := by
    funext o; exact congrFun h2 _
  have e3 : Cert.EncoderReferenceIdeal.Value.w2 (StableHlo.launchContents m' c) = Cert.EncoderIdeal.Value.w2 m c := by
    funext o k i j; exact congrFun h3 _
  have e4 : Cert.EncoderReferenceIdeal.Value.b2 (StableHlo.launchContents m' c) = Cert.EncoderIdeal.Value.b2 m c := by
    funext o; exact congrFun h4 _
  have e5 : Cert.EncoderReferenceIdeal.Value.w3 (StableHlo.launchContents m' c) = Cert.EncoderIdeal.Value.w3 m c := by
    funext o k i j; exact congrFun h5 _
  have e6 : Cert.EncoderReferenceIdeal.Value.b3 (StableHlo.launchContents m' c) = Cert.EncoderIdeal.Value.b3 m c := by
    funext o; exact congrFun h6 _
  have e7 : Cert.EncoderReferenceIdeal.Value.wp (StableHlo.launchContents m' c) = Cert.EncoderIdeal.Value.wp m c := by
    funext o k; exact congrFun h7 _
  have e8 : Cert.EncoderReferenceIdeal.Value.bp (StableHlo.launchContents m' c) = Cert.EncoderIdeal.Value.bp m c := by
    funext o; exact congrFun h8 _
  unfold Cert.EncoderReferenceIdeal.Value.out Cert.EncoderReferenceIdeal.Value.h2 Cert.EncoderReferenceIdeal.Value.h1
  rw [e0, e1, e2, e3, e4, e5, e6, e7, e8]
  refine funext fun x => ?_
  obtain ⟨n, o, i, j, rfl⟩ : ∃ (n : Fin 4) (o : Fin 64) (i j : Fin 56), x = (ix4 n o i j : Cert.EncoderIdeal.S4x64x56x56.Idx) :=
    ⟨_, _, _, _, eq_ix4 x⟩
  exact (Cert.EncoderIdeal.Value.layer3 m ρ c n o i j).symm

/-- The decoder's reference: the generated run keeps the arguments, and the program declares no semaphore. -/
theorem frame_dec_ref : Cert.quiescent_DecoderReferenceIdeal := fun m ρ _ =>
  (θ_run Cert.DecoderReferenceIdeal.defs _ _).mono (fun r h => ⟨fun c => (h c).2, sem_eq_zero_of_no_sems (by decide) r.2⟩)
    (Cert.DecoderReferenceIdeal.Value.run (F := Ideal) m ρ)

/-- The encoder's reference, likewise. -/
theorem frame_enc_ref : Cert.quiescent_EncoderReferenceIdeal := fun m ρ _ =>
  (θ_run Cert.EncoderReferenceIdeal.defs _ _).mono (fun r h => ⟨fun c => (h c).2, sem_eq_zero_of_no_sems (by decide) r.2⟩)
    (Cert.EncoderReferenceIdeal.Value.run (F := Ideal) m ρ)

/-- The decoder and its reference compute the same image, exactly: the layers of Spec.lean, read off both runs. -/
theorem algebraic_dec : Cert.algebraic_DecoderIdeal_DecoderReferenceIdeal := fun m ρ m' ρ' _ hm =>
  ⟨fun c => Cert.DecoderIdeal.Gen.W13 m ρ c Cert.DecoderIdeal.main_v158, Cert.DecoderIdeal.Value.run m ρ,
    (θ_run Cert.DecoderReferenceIdeal.defs _ _).mono (fun r h c => ⟨(h c).1.trans (same m ρ m' c (hm c)), (h c).2⟩)
      (Cert.DecoderReferenceIdeal.Value.run_out m' ρ')⟩

/-- The encoder and its reference compute the same array, exactly, likewise. -/
theorem algebraic_enc : Cert.algebraic_EncoderIdeal_EncoderReferenceIdeal := fun m ρ m' ρ' _ hm =>
  ⟨fun c => Cert.EncoderIdeal.Gen.W13 m ρ c Cert.EncoderIdeal.main_v60, Cert.EncoderIdeal.Value.run m ρ,
    (θ_run Cert.EncoderReferenceIdeal.defs _ _).mono (fun r h c => ⟨(h c).1.trans (same_enc m ρ m' c (hm c)), (h c).2⟩)
      (Cert.EncoderReferenceIdeal.Value.run_out m' ρ')⟩

theorem claim : Cert.Claim := ⟨Cert.Decoder.Gen.facts, Cert.DecoderIdeal.Gen.facts, Cert.DecoderReferenceIdeal.Gen.facts, Cert.Encoder.Gen.facts, Cert.EncoderIdeal.Gen.facts, Cert.EncoderReferenceIdeal.Gen.facts,
  fun m ρ _ => Cert.Decoder.Gen.frame m ρ, fun m ρ _ => Cert.DecoderIdeal.Gen.frame m ρ, frame_dec_ref,
  fun m ρ _ => Cert.Encoder.Gen.frame m ρ, fun m ρ _ => Cert.EncoderIdeal.Gen.frame m ρ, frame_enc_ref,
  trivial, algebraic_dec, trivial, algebraic_enc⟩

end Cert.Proof

end
